-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_3)) (v3 : (c : Dev Cert.Kernel7Ideal.nD) → Buf (Elt Ideal) ((c.tc : Thread Cert.Kernel7Ideal.nD Cert.Kernel7Ideal.τ).loc Cert.Kernel7Ideal.main_v8_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_3) = v2 c
          ∧ r.2.mem ((c.tc : Thread Cert.Kernel7Ideal.nD Cert.Kernel7Ideal.τ).loc Cert.Kernel7Ideal.main_v8_6) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v102) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_v104) = v2 c
          ∧ r.2.mem ((c.tc : Thread Cert.Reference7Ideal.nD Cert.Reference7Ideal.τ).loc Cert.Reference7Ideal.main_v105) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_scores_finite.lean ====
abbrev S8x1x4x4x128 : Shape := ⟨5, ![8, 1, 4, 4, 128]⟩
abbrev S8x1x5168 : Shape := ⟨3, ![8, 1, 5168]⟩
abbrev S3x128 : Shape := ⟨2, ![3, 128]⟩
abbrev S8x2x512x4x128 : Shape := ⟨5, ![8, 2, 512, 4, 128]⟩
abbrev S8x1x512 : Shape := ⟨3, ![8, 1, 512]⟩
abbrev S1x128 : Shape := ⟨2, ![1, 128]⟩
abbrev S128 : Shape := ⟨1, ![128]⟩
abbrev S8x1x512x4x128 : Shape := ⟨5, ![8, 1, 512, 4, 128]⟩
abbrev S8x512x4x128 : Shape := ⟨4, ![8, 512, 4, 128]⟩
abbrev S_ : Shape := ⟨0, ![]⟩
abbrev S16384 : Shape := ⟨1, ![16384]⟩
abbrev S4096 : Shape := ⟨1, ![4096]⟩
abbrev S2097152 : Shape := ⟨1, ![2097152]⟩
abbrev S2117760 : Shape := ⟨1, ![2117760]⟩

class Facts : Prop where
  slices_S8x1x5168_S8x1x512_0_0_4096 : S8x1x5168.Slices ![0, 0, 4096] S8x1x512
  slices_S3x128_S1x128_2_0 : S3x128.Slices ![2, 0] S1x128
  shapeCasts_S1x128_S128 : S1x128.ShapeCasts S128
  slices_S8x2x512x4x128_S8x1x512x4x128_0_0_0_0_0 : S8x2x512x4x128.Slices ![0, 0, 0, 0, 0] S8x1x512x4x128
  shapeCasts_S8x1x512x4x128_S8x512x4x128 : S8x1x512x4x128.ShapeCasts S8x512x4x128
  bcast_S_S8x1x4x4x128 : S_.BroadcastsInDim S8x1x4x4x128 (![] : Fin 0 → Fin S8x1x4x4x128.rank)
  shapeCasts_S8x1x4x4x128_S16384 : S8x1x4x4x128.ShapeCasts S16384
  bcast_S_S8x1x512 : S_.BroadcastsInDim S8x1x512 (![] : Fin 0 → Fin S8x1x512.rank)
  shapeCasts_S8x1x512_S4096 : S8x1x512.ShapeCasts S4096
  bcast_S_S128 : S_.BroadcastsInDim S128 (![] : Fin 0 → Fin S128.rank)
  bcast_S_S8x512x4x128 : S_.BroadcastsInDim S8x512x4x128 (![] : Fin 0 → Fin S8x512x4x128.rank)
  shapeCasts_S8x512x4x128_S2097152 : S8x512x4x128.ShapeCasts S2097152
  concatenates_S16384_S4096_S128_S2097152_S2117760_d0 : Shape.Concatenates [S16384, S4096, S128, S2097152] S2117760 0

variable [Facts]

def fn_part1 {F : FTy → Type} [FloatOps F] (main_v8 : IVec S16384 1) (main_v12 : IVec S4096 1) (main_v15 : IVec S128 1) (main_v19 : IVec S2097152 1) : IVec S2117760 1 :=
  let main_v20 : IVec S2117760 1 := concatenate S2117760 0 [⟨S16384, main_v8⟩, ⟨S4096, main_v12⟩, ⟨S128, main_v15⟩, ⟨S2097152, main_v19⟩] concatenates_S16384_S4096_S128_S2097152_S2117760_d0
  main_v20

def fn {F : FTy → Type} [FloatOps F] (main_arg0 : FVec F S8x1x4x4x128 .f32) (main_arg1 : FVec F S8x1x4x4x128 .f32) (main_arg2 : FVec F S8x1x4x4x128 .f32) (main_arg3 : FVec F S8x1x5168 .f32) (main_arg4 : FVec F S3x128 .f32) (main_arg5 : FVec F S8x2x512x4x128 .f32) (main_arg6 : FVec F S8x2x512x4x128 .f32) : IVec S2117760 1 :=
  let main_v0 : FVec F S8x1x512 .f32 := (extractStridedSlice S8x1x512 ![0, 0, 4096] · slices_S8x1x5168_S8x1x512_0_0_4096) main_arg3
  let main_v1 : FVec F S1x128 .f32 := (extractStridedSlice S1x128 ![2, 0] · slices_S3x128_S1x128_2_0) main_arg4
  let main_v2 : FVec F S128 .f32 := shapeCast S128 main_v1 shapeCasts_S1x128_S128
  let main_v3 : FVec F S8x1x512x4x128 .f32 := (extractStridedSlice S8x1x512x4x128 ![0, 0, 0, 0, 0] · slices_S8x2x512x4x128_S8x1x512x4x128_0_0_0_0_0) main_arg5
  let main_v4 : FVec F S8x512x4x128 .f32 := shapeCast S8x512x4x128 main_v3 shapeCasts_S8x1x512x4x128_S8x512x4x128
  let main_v5 : FVec F S8x1x4x4x128 .f32 := Host.absf main_arg0
  let main_cst : FVec F S_ .f32 := constant S_ .f32 0x7F800000#32
  let main_v6 : FVec F S8x1x4x4x128 .f32 := broadcastInDim S8x1x4x4x128 ![] bcast_S_S8x1x4x4x128 main_cst
  let main_v7 : IVec S8x1x4x4x128 1 := cmpf .olt main_v5 main_v6
  let main_v8 : IVec S16384 1 := shapeCast S16384 main_v7 shapeCasts_S8x1x4x4x128_S16384
  let main_v9 : FVec F S8x1x512 .f32 := Host.absf main_v0
  let main_cst_0 : FVec F S_ .f32 := constant S_ .f32 0x7F800000#32
  let main_v10 : FVec F S8x1x512 .f32 := broadcastInDim S8x1x512 ![] bcast_S_S8x1x512 main_cst_0
  let main_v11 : IVec S8x1x512 1 := cmpf .olt main_v9 main_v10
  let main_v12 : IVec S4096 1 := shapeCast S4096 main_v11 shapeCasts_S8x1x512_S4096
  let main_v13 : FVec F S128 .f32 := Host.absf main_v2
  let main_cst_1 : FVec F S_ .f32 := constant S_ .f32 0x7F800000#32
  let main_v14 : FVec F S128 .f32 := broadcastInDim S128 ![] bcast_S_S128 main_cst_1
  let main_v15 : IVec S128 1 := cmpf .olt main_v13 main_v14
  let main_v16 : FVec F S8x512x4x128 .f32 := Host.absf main_v4
  let main_cst_2 : FVec F S_ .f32 := constant S_ .f32 0x7F800000#32
  let main_v17 : FVec F S8x512x4x128 .f32 := broadcastInDim S8x512x4x128 ![] bcast_S_S8x512x4x128 main_cst_2
  let main_v18 : IVec S8x512x4x128 1 := cmpf .olt main_v16 main_v17
  let main_v19 : IVec S2097152 1 := shapeCast S2097152 main_v18 shapeCasts_S8x512x4x128_S2097152
  fn_part1 (F := F) main_v8 main_v12 main_v15 main_v19
-- ==== Kernel.lean ====
abbrev S8x1x4x4x128 : Shape := ⟨5, ![8, 1, 4, 4, 128]⟩
abbrev S8x1x5168 : Shape := ⟨3, ![8, 1, 5168]⟩
abbrev S3x128 : Shape := ⟨2, ![3, 128]⟩
abbrev S8x2x512x4x128 : Shape := ⟨5, ![8, 2, 512, 4, 128]⟩
abbrev S8x5168 : Shape := ⟨2, ![8, 5168]⟩
abbrev S8x48 : Shape := ⟨2, ![8, 48]⟩
abbrev S8x4x4x3 : Shape := ⟨4, ![8, 4, 4, 3]⟩
abbrev S8x3x4x4 : Shape := ⟨4, ![8, 3, 4, 4]⟩
abbrev S_ : Shape := ⟨0, ![]⟩
abbrev S8x4x4x128 : Shape := ⟨4, ![8, 4, 4, 128]⟩
abbrev S8x4x8x128 : Shape := ⟨4, ![8, 4, 8, 128]⟩
abbrev S8x5120 : Shape := ⟨2, ![8, 5120]⟩
abbrev S8x128 : Shape := ⟨2, ![8, 128]⟩
abbrev S8x2x512x512 : Shape := ⟨4, ![8, 2, 512, 512]⟩
abbrev S8x1x5120 : Shape := ⟨3, ![8, 1, 5120]⟩
abbrev S8x1x128 : Shape := ⟨3, ![8, 1, 128]⟩
abbrev S8x1x2048 : Shape := ⟨3, ![8, 1, 2048]⟩
abbrev S8x512x512 : Shape := ⟨3, ![8, 512, 512]⟩
abbrev S1x4x8x128 : Shape := ⟨4, ![1, 4, 8, 128]⟩
abbrev S1x1x512 : Shape := ⟨3, ![1, 1, 512]⟩
abbrev S1x1x128 : Shape := ⟨3, ![1, 1, 128]⟩
abbrev S1x1x512x512 : Shape := ⟨4, ![1, 1, 512, 512]⟩
abbrev S1x1x2048 : Shape := ⟨3, ![1, 1, 2048]⟩
abbrev S1x512x512 : Shape := ⟨3, ![1, 512, 512]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1x8x128 : Shape := ⟨4, ![1, 1, 8, 128]⟩
abbrev S1 : Shape := ⟨1, ![1]⟩
abbrev S1x1 : Shape := ⟨2, ![1, 1]⟩
abbrev S1x1x512x128 : Shape := ⟨4, ![1, 1, 512, 128]⟩
abbrev S512x128 : Shape := ⟨2, ![512, 128]⟩
abbrev S8x512 : Shape := ⟨2, ![8, 512]⟩
abbrev S8 : Shape := ⟨1, ![8]⟩
abbrev S8x1 : Shape := ⟨2, ![8, 1]⟩
abbrev S1x512x128 : Shape := ⟨3, ![1, 512, 128]⟩

abbrev nBuf : Space → Nat
  | .hbm => 38
  | .vmem => 23
  | .smem => 0
  | _ => 0

abbrev bufTy : (tb : Table) → Fin (tcTables nBuf tb) → BufTy
  | .hbm, ⟨0, _⟩ => ⟨S8x1x4x4x128, .f32⟩
  | .hbm, ⟨1, _⟩ => ⟨S8x1x4x4x128, .f32⟩
  | .hbm, ⟨2, _⟩ => ⟨S8x1x4x4x128, .f32⟩
  | .hbm, ⟨3, _⟩ => ⟨S8x1x5168, .f32⟩
  | .hbm, ⟨4, _⟩ => ⟨S3x128, .f32⟩
  | .hbm, ⟨5, _⟩ => ⟨S8x2x512x4x128, .f32⟩
  | .hbm, ⟨6, _⟩ => ⟨S8x2x512x4x128, .f32⟩
  | .hbm, ⟨7, _⟩ => ⟨S8x5168, .f32⟩
  | .hbm, ⟨8, _⟩ => ⟨S8x48, .f32⟩
  | .hbm, ⟨9, _⟩ => ⟨S8x4x4x3, .f32⟩
  | .hbm, ⟨10, _⟩ => ⟨S8x3x4x4, .f32⟩
  | .hbm, ⟨11, _⟩ => ⟨S8x48, .f32⟩
  | .hbm, ⟨12, _⟩ => ⟨S_, .f32⟩
  | .hbm, ⟨13, _⟩ => ⟨S8x1x4x4x128, .f32⟩
  | .hbm, ⟨14, _⟩ => ⟨S8x1x4x4x128, .f32⟩
  | .hbm, ⟨15, _⟩ => ⟨S8x4x4x128, .f32⟩
  | .hbm, ⟨16, _⟩ => ⟨S_, .i32⟩
  | .hbm, ⟨17, _⟩ => ⟨S_, .f32⟩
  | .hbm, ⟨18, _⟩ => ⟨S8x4x8x128, .f32⟩
  | .hbm, ⟨19, _⟩ => ⟨S8x4x4x128, .f32⟩
  | .hbm, ⟨20, _⟩ => ⟨S_, .i32⟩
  | .hbm, ⟨21, _⟩ => ⟨S_, .f32⟩
  | .hbm, ⟨22, _⟩ => ⟨S8x4x8x128, .f32⟩
  | .hbm, ⟨23, _⟩ => ⟨S8x4x4x128, .f32⟩
  | .hbm, ⟨24, _⟩ => ⟨S_, .i32⟩
  | .hbm, ⟨25, _⟩ => ⟨S_, .f32⟩
  | .hbm, ⟨26, _⟩ => ⟨S8x4x8x128, .f32⟩
  | .hbm, ⟨27, _⟩ => ⟨S8x5120, .f32⟩
  | .hbm, ⟨28, _⟩ => ⟨S_, .i32⟩
  | .hbm, ⟨29, _⟩ => ⟨S_, .f32⟩
  | .hbm, ⟨30, _⟩ => ⟨S8x128, .f32⟩
  | .hbm, ⟨31, _⟩ => ⟨S8x2x512x512, .f32⟩
  | .hbm, ⟨32, _⟩ => ⟨S8x2x512x512, .f32⟩
  | .hbm, ⟨33, _⟩ => ⟨S8x1x5120, .f32⟩
  | .hbm, ⟨34, _⟩ => ⟨S8x1x128, .f32⟩
  | .hbm, ⟨35, _⟩ => ⟨S8x1x2048, .f32⟩
  | .hbm, ⟨36, _⟩ => ⟨S8x512x512, .f32⟩
  | .hbm, ⟨37, _⟩ => ⟨S8x512x512, .f32⟩
  | .local _ .vmem, ⟨0, _⟩ => ⟨S1x4x8x128, .f32⟩
  | .local _ .vmem, ⟨1, _⟩ => ⟨S1x4x8x128, .f32⟩
  | .local _ .vmem, ⟨2, _⟩ => ⟨S1x4x8x128, .f32⟩
  | .local _ .vmem, ⟨3, _⟩ => ⟨S1x4x8x128, .f32⟩
  | .local _ .vmem, ⟨4, _⟩ => ⟨S1x4x8x128, .f32⟩
  | .local _ .vmem, ⟨5, _⟩ => ⟨S1x4x8x128, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x128, .f32⟩
  | .local _ .vmem, ⟨11, _⟩ => ⟨S1x1x128, .f32⟩
  | .local _ .vmem, ⟨12, _⟩ => ⟨S3x128, .f32⟩
  | .local _ .vmem, ⟨13, _⟩ => ⟨S1x1x512x512, .f32⟩
  | .local _ .vmem, ⟨14, _⟩ => ⟨S1x1x512x512, .f32⟩
  | .local _ .vmem, ⟨15, _⟩ => ⟨S1x1x512x512, .f32⟩
  | .local _ .vmem, ⟨16, _⟩ => ⟨S1x1x512x512, .f32⟩
  | .local _ .vmem, ⟨17, _⟩ => ⟨S1x1x2048, .f32⟩
  | .local _ .vmem, ⟨18, _⟩ => ⟨S1x1x2048, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | _, _ => ⟨S8x1x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_4 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x1x4x4x128 : Shape := ⟨5, ![8, 1, 4, 4, 128]⟩
abbrev S8x1x5168 : Shape := ⟨3, ![8, 1, 5168]⟩
abbrev S3x128 : Shape := ⟨2, ![3, 128]⟩
abbrev S8x2x512x4x128 : Shape := ⟨5, ![8, 2, 512, 4, 128]⟩
abbrev S8x1x2048 : Shape := ⟨3, ![8, 1, 2048]⟩
abbrev S8x1x512 : Shape := ⟨3, ![8, 1, 512]⟩
abbrev S8x1x48 : Shape := ⟨3, ![8, 1, 48]⟩
abbrev S8x1x4x128 : Shape := ⟨4, ![8, 1, 4, 128]⟩
abbrev S1x128 : Shape := ⟨2, ![1, 128]⟩
abbrev S128 : Shape := ⟨1, ![128]⟩
abbrev S_ : Shape := ⟨0, ![]⟩
abbrev S8x1x4 : Shape := ⟨3, ![8, 1, 4]⟩
abbrev S8x1x4x1 : Shape := ⟨4, ![8, 1, 4, 1]⟩
abbrev S1x1x1x128 : Shape := ⟨4, ![1, 1, 1, 128]⟩
abbrev S8x1x4x4x3 : Shape := ⟨5, ![8, 1, 4, 4, 3]⟩
abbrev S8x1x512x4x128 : Shape := ⟨5, ![8, 1, 512, 4, 128]⟩
abbrev S8x512x4x128 : Shape := ⟨4, ![8, 512, 4, 128]⟩
abbrev S8x513x4x128 : Shape := ⟨4, ![8, 513, 4, 128]⟩
abbrev S1 : Shape := ⟨1, ![1]⟩
abbrev S1x1 : Shape := ⟨2, ![1, 1]⟩
abbrev S513 : Shape := ⟨1, ![513]⟩
abbrev S1x513 : Shape := ⟨2, ![1, 513]⟩
abbrev S8x4x513x1x4 : Shape := ⟨5, ![8, 4, 513, 1, 4]⟩
abbrev S8x4x4x1x513 : Shape := ⟨5, ![8, 4, 4, 1, 513]⟩
abbrev S8x4x4x1 : Shape := ⟨4, ![8, 4, 4, 1]⟩
abbrev S8x4x4x1x1 : Shape := ⟨5, ![8, 4, 4, 1, 1]⟩
abbrev S8x4x128x4x1 : Shape := ⟨5, ![8, 4, 128, 4, 1]⟩
abbrev S8x1x4x4x1 : Shape := ⟨5, ![8, 1, 4, 4, 1]⟩
abbrev S8x512x512 : Shape := ⟨3, ![8, 512, 512]⟩

abbrev nBuf : Space → Nat
  | .hbm => 108
  | .vmem => 0
  | .smem => 0
  | _ => 0

abbrev bufTy : (tb : Table) → Fin (tcTables nBuf tb) → BufTy
  | .hbm, ⟨0, _⟩ => ⟨S8x1x4x4x128, .f32⟩
  | .hbm, ⟨1, _⟩ => ⟨S8x1x4x4x128, .f32⟩
  | .hbm, ⟨2, _⟩ => ⟨S8x1x4x4x128, .f32⟩
  | .hbm, ⟨3, _⟩ => ⟨S8x1x5168, .f32⟩
  | .hbm, ⟨4, _⟩ => ⟨S3x128, .f32⟩
  | .hbm, ⟨5, _⟩ => ⟨S8x2x512x4x128, .f32⟩
  | .hbm, ⟨6, _⟩ => ⟨S8x2x512x4x128, .f32⟩
  | .hbm, ⟨7, _⟩ => ⟨S8x1x2048, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x512, .f32⟩
  | .hbm, ⟨12, _⟩ => ⟨S8x1x512, .f32⟩
  | .hbm, ⟨13, _⟩ => ⟨S8x1x512, .f32⟩
  | .hbm, ⟨14, _⟩ => ⟨S8x1x48, .f32⟩
  | .hbm, ⟨15, _⟩ => ⟨S8x1x4x128, .f32⟩
  | .hbm, ⟨16, _⟩ => ⟨S8x1x4x128, .f32⟩
  | .hbm, ⟨17, _⟩ => ⟨S1x128, .f32⟩
  | .hbm, ⟨18, _⟩ => ⟨S128, .f32⟩
  | .hbm, ⟨19, _⟩ => ⟨S8x1x4x128, .f32⟩
  | .hbm, ⟨20, _⟩ => ⟨S_, .f32⟩
  | .hbm, ⟨21, _⟩ => ⟨S8x1x4, .f32⟩
  | .hbm, ⟨22, _⟩ => ⟨S8x1x4x1, .f32⟩
  | .hbm, ⟨23, _⟩ => ⟨S_, .f32⟩
  | .hbm, ⟨24, _⟩ => ⟨S8x1x4x1, .f32⟩
  | .hbm, ⟨25, _⟩ => ⟨S8x1x4x1, .f32⟩
  | .hbm, ⟨26, _⟩ => ⟨S_, .f32⟩
  | .hbm, ⟨27, _⟩ => ⟨S8x1x4x1, .f32⟩
  | .hbm, ⟨28, _⟩ => ⟨S8x1x4x1, .f32⟩
  | .hbm, ⟨29, _⟩ => ⟨S8x1x4x1, .f32⟩
  | .hbm, ⟨30, _⟩ => ⟨S8x1x4x128, .f32⟩
  | .hbm, ⟨31, _⟩ => ⟨S8x1x4x128, .f32⟩
  | .hbm, ⟨32, _⟩ => ⟨S1x1x1x128, .f32⟩
  | .hbm, ⟨33, _⟩ => ⟨S8x1x4x128, .f32⟩
  | .hbm, ⟨34, _⟩ => ⟨S8x1x4x128, .f32⟩
  | .hbm, ⟨35, _⟩ => ⟨S8x1x48, .f32⟩
  | .hbm, ⟨36, _⟩ => ⟨S8x1x48, .f32⟩
  | .hbm, ⟨37, _⟩ => ⟨S_, .f32⟩
  | .hbm, ⟨38, _⟩ => ⟨S8x1x48, .f32⟩
  | .hbm, ⟨39, _⟩ => ⟨S8x1x48, .f32⟩
  | .hbm, ⟨40, _⟩ => ⟨S_, .f32⟩
  | .hbm, ⟨41, _⟩ => ⟨S8x1x48, .f32⟩
  | .hbm, ⟨42, _⟩ => ⟨S8x1x48, .f32⟩
  | .hbm, ⟨43, _⟩ => ⟨S8x1x4x4x3, .f32⟩
  | .hbm, ⟨44, _⟩ => ⟨S8x1x512x4x128, .f32⟩
  | .hbm, ⟨45, _⟩ => ⟨S8x512x4x128, .f32⟩
  | .hbm, ⟨46, _⟩ => ⟨S8x1x512x4x128, .f32⟩
  | .hbm, ⟨47, _⟩ => ⟨S8x512x4x128, .f32⟩
  | .hbm, ⟨48, _⟩ => ⟨S8x513x4x128, .f32⟩
  | .hbm, ⟨49, _⟩ => ⟨S8x513x4x128, .f32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1x1, .i32⟩
  | .hbm, ⟨55, _⟩ => ⟨S513, .i32⟩
  | .hbm, ⟨56, _⟩ => ⟨S1x513, .i32⟩
  | .hbm, ⟨57, _⟩ => ⟨S1x513, .i32⟩
  | .hbm, ⟨58, _⟩ => ⟨S1x513, .i32⟩
  | .hbm, ⟨59, _⟩ => ⟨S_, .i32⟩
  | .hbm, ⟨60, _⟩ => ⟨S1x513, .i32⟩
  | .hbm, ⟨61, _⟩ => ⟨S1x513, .i1⟩
  | .hbm, ⟨62, _⟩ => ⟨S_, .i32⟩
  | .hbm, ⟨63, _⟩ => ⟨S1x513, .i32⟩
  | .hbm, ⟨64, _⟩ => ⟨S1x513, .i1⟩
  | .hbm, ⟨65, _⟩ => ⟨S1x513, .i1⟩
  | .hbm, ⟨66, _⟩ => ⟨S8x4x513x1x4, .f32⟩
  | .hbm, ⟨67, _⟩ => ⟨S8x4x4x1x513, .f32⟩
  | .hbm, ⟨68, _⟩ => ⟨S_, .f32⟩
  | .hbm, ⟨69, _⟩ => ⟨S8x4x4x1x513, .f32⟩
  | .hbm, ⟨70, _⟩ => ⟨S8x4x4x1x513, .f32⟩
  | .hbm, ⟨71, _⟩ => ⟨S_, .f32⟩
  | .hbm, ⟨72, _⟩ => ⟨S_, .f32⟩
  | .hbm, ⟨73, _⟩ => ⟨S8x4x4x1x513, .i1⟩
  | .hbm, ⟨74, _⟩ => ⟨S8x4x4x1x513, .f32⟩
  | .hbm, ⟨75, _⟩ => ⟨S8x4x4x1x513, .f32⟩
  | .hbm, ⟨76, _⟩ => ⟨S_, .f32⟩
  | .hbm, ⟨77, _⟩ => ⟨S8x4x4x1, .f32⟩
  | .hbm, ⟨78, _⟩ => ⟨S_, .f32⟩
  | .hbm, ⟨79, _⟩ => ⟨S8x4x4x1, .f32⟩
  | .hbm, ⟨80, _⟩ => ⟨S8x4x4x1, .f32⟩
  | .hbm, ⟨81, _⟩ => ⟨S8x4x4x1x1, .f32⟩
  | .hbm, ⟨82, _⟩ => ⟨S8x4x4x1x513, .f32⟩
  | .hbm, ⟨83, _⟩ => ⟨S8x4x4x1x513, .f32⟩
  | .hbm, ⟨84, _⟩ => ⟨S8x4x4x1x513, .f32⟩
  | .hbm, ⟨85, _⟩ => ⟨S_, .f32⟩
  | .hbm, ⟨86, _⟩ => ⟨S8x4x4x1, .f32⟩
  | .hbm, ⟨87, _⟩ => ⟨S8x4x4x1x1, .f32⟩
  | .hbm, ⟨88, _⟩ => ⟨S8x4x4x1x513, .f32⟩
  | .hbm, ⟨89, _⟩ => ⟨S8x4x4x1x513, .f32⟩
  | .hbm, ⟨90, _⟩ => ⟨S8x4x128x4x1, .f32⟩
  | .hbm, ⟨91, _⟩ => ⟨S8x1x4x4x128, .f32⟩
  | .hbm, ⟨92, _⟩ => ⟨S8x512x4x128, .f32⟩
  | .hbm, ⟨93, _⟩ => ⟨S8x512x4x128, .f32⟩
  | .hbm, ⟨94, _⟩ => ⟨S8x1x4x4x1, .f32⟩
  | .hbm, ⟨95, _⟩ => ⟨S8x1x4x4x128, .f32⟩
  | .hbm, ⟨96, _⟩ => ⟨S8x1x4x4x128, .f32⟩
  | .hbm, ⟨97, _⟩ => ⟨S8x1x4x4x1, .f32⟩
  | .hbm, ⟨98, _⟩ => ⟨S8x1x4x4x128, .f32⟩
  | .hbm, ⟨99, _⟩ => ⟨S8x1x4x4x128, .f32⟩
  | .hbm, ⟨100, _⟩ => ⟨S8x1x4x4x128, .f32⟩
  | .hbm, ⟨101, _⟩ => ⟨S8x1x4x4x1, .f32⟩
  | .hbm, ⟨102, _⟩ => ⟨S8x1x4x4x128, .f32⟩
  | .hbm, ⟨103, _⟩ => ⟨S8x1x4x4x128, .f32⟩
  | .hbm, ⟨104, _⟩ => ⟨S8x1x4x4x128, .f32⟩
  | .hbm, ⟨105, _⟩ => ⟨S8x1x2048, .f32⟩
  | .hbm, ⟨106, _⟩ => ⟨S8x512x512, .f32⟩
  | .hbm, ⟨107, _⟩ => ⟨S8x512x512, .f32⟩
  | _, _ => ⟨S8x1x4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Kernel2.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S4x2048x8192, .bf16⟩
  | .hbm, ⟨8, _⟩ => ⟨S4x8192x2048, .bf16⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2x4096x8192 : Shape := ⟨3, ![2, 4096, 8192]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S1x2048x8192, .f32⟩
  | .hbm, ⟨23, _⟩ => ⟨S2048x8192, .f32⟩
  | .hbm, ⟨24, _⟩ => ⟨S1x8192x2048, .f32⟩
  | .hbm, ⟨25, _⟩ => ⟨S8192x2048, .f32⟩
  | .hbm, ⟨26, _⟩ => ⟨S2x4096x8192, .f32⟩
  | .hbm, ⟨27, _⟩ => ⟨S_, .f32⟩
  | .hbm, ⟨28, _⟩ => ⟨S2x4096x8192, .f32⟩
  | .hbm, ⟨29, _⟩ => ⟨S2x4096x8192, .f32⟩
  | .hbm, ⟨30, _⟩ => ⟨S2x4096x8192, .f32⟩
  | .hbm, ⟨31, _⟩ => ⟨S2x4096x2048, .f32⟩
  | .hbm, ⟨32, _⟩ => ⟨S2x4096x2048, .f32⟩
  | .hbm, ⟨33, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S2x4096x2048 : Shape := ⟨3, ![2, 4096, 2048]⟩
abbrev S4x2048 : Shape := ⟨2, ![4, 2048]⟩
abbrev S2x2048x7168 : Shape := ⟨3, ![2, 2048, 7168]⟩
abbrev S8192x2048 : Shape := ⟨2, ![8192, 2048]⟩
abbrev S1x2048 : Shape := ⟨2, ![1, 2048]⟩
abbrev S2048 : Shape := ⟨1, ![2048]⟩
abbrev S8192x7168 : Shape := ⟨2, ![8192, 7168]⟩
abbrev S1024x2048 : Shape := ⟨2, ![1024, 2048]⟩
abbrev S1x2048x896 : Shape := ⟨3, ![1, 2048, 896]⟩
abbrev S1024x896 : Shape := ⟨2, ![1024, 896]⟩
abbrev S1024 : Shape := ⟨1, ![1024]⟩
abbrev S1024x1 : Shape := ⟨2, ![1024, 1]⟩
abbrev S2048x896 : Shape := ⟨2, ![2048, 896]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x7168, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x896, .f32⟩
  | .local _ .vmem, ⟨4, _⟩ => ⟨S1x2048x896, .f32⟩
  | .local _ .vmem, ⟨5, _⟩ => ⟨S1024x896, .f32⟩
  | .local _ .vmem, ⟨6, _⟩ => ⟨S1024x896, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4096x2048 : Shape := ⟨3, ![2, 4096, 2048]⟩
abbrev S4x2048 : Shape := ⟨2, ![4, 2048]⟩
abbrev S2x2048x7168 : Shape := ⟨3, ![2, 2048, 7168]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x7168 : Shape := ⟨3, ![1, 2048, 7168]⟩
abbrev S2048x7168 : Shape := ⟨2, ![2048, 7168]⟩
abbrev S2x4096x7168 : Shape := ⟨3, ![2, 4096, 7168]⟩
abbrev S8192x7168 : Shape := ⟨2, ![8192, 7168]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x7168, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x7168, .f32⟩
  | .hbm, ⟨22, _⟩ => ⟨S2048x7168, .f32⟩
  | .hbm, ⟨23, _⟩ => ⟨S2x4096x7168, .f32⟩
  | .hbm, ⟨24, _⟩ => ⟨S8192x7168, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S2x4096x2048 : Shape := ⟨3, ![2, 4096, 2048]⟩
abbrev S4x2048 : Shape := ⟨2, ![4, 2048]⟩
abbrev S2x2048x5168 : Shape := ⟨3, ![2, 2048, 5168]⟩
abbrev S8192x2048 : Shape := ⟨2, ![8192, 2048]⟩
abbrev S1x2048 : Shape := ⟨2, ![1, 2048]⟩
abbrev S2048 : Shape := ⟨1, ![2048]⟩
abbrev S8192x5120 : Shape := ⟨2, ![8192, 5120]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x5168, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S4x2048 : Shape := ⟨2, ![4, 2048]⟩
abbrev S2x2048x5168 : Shape := ⟨3, ![2, 2048, 5168]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5168 : Shape := ⟨3, ![1, 2048, 5168]⟩
abbrev S2048x5168 : Shape := ⟨2, ![2048, 5168]⟩
abbrev S2x4096x5168 : Shape := ⟨3, ![2, 4096, 5168]⟩
abbrev S8192x5168 : Shape := ⟨2, ![8192, 5168]⟩
abbrev S8192x5120 : Shape := ⟨2, ![8192, 5120]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x5168, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x5168, .f32⟩
  | .hbm, ⟨22, _⟩ => ⟨S2048x5168, .f32⟩
  | .hbm, ⟨23, _⟩ => ⟨S2x4096x5168, .f32⟩
  | .hbm, ⟨24, _⟩ => ⟨S8192x5168, .f32⟩
  | .hbm, ⟨25, _⟩ => ⟨S8192x5120, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S2x4096x1024 : Shape := ⟨3, ![2, 4096, 1024]⟩
abbrev S2x2048x2048 : Shape := ⟨3, ![2, 2048, 2048]⟩
abbrev S2x4096x2048 : Shape := ⟨3, ![2, 4096, 2048]⟩
abbrev S8192x1024 : Shape := ⟨2, ![8192, 1024]⟩
abbrev S8192x2048 : Shape := ⟨2, ![8192, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x2048x2048, .f32⟩
  | .hbm, ⟨3, _⟩ => ⟨S2x4096x2048, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S2x2048x2048, .bf16⟩
  | .hbm, ⟨9, _⟩ => ⟨S8192x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x4096x1024 : Shape := ⟨3, ![2, 4096, 1024]⟩
abbrev S2x2048x2048 : Shape := ⟨3, ![2, 2048, 2048]⟩
abbrev S2x4096x2048 : Shape := ⟨3, ![2, 4096, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x2048x2048, .f32⟩
  | .hbm, ⟨3, _⟩ => ⟨S2x4096x2048, .f32⟩
  | .hbm, ⟨4, _⟩ => ⟨S2x4096x2048, .f32⟩
  | .hbm, ⟨5, _⟩ => ⟨S1x2048x2048, .f32⟩
  | .hbm, ⟨6, _⟩ => ⟨S2048x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S2x4096x2048 : Shape := ⟨3, ![2, 4096, 2048]⟩
abbrev S2x2048x2048 : Shape := ⟨3, ![2, 2048, 2048]⟩
abbrev S8192x2048 : Shape := ⟨2, ![8192, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2x2048x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | .hbm, ⟨5, _⟩ => ⟨S2x2048x2048, .bf16⟩
  | .hbm, ⟨6, _⟩ => ⟨S8192x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x4096x2048 : Shape := ⟨3, ![2, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x2048, .f32⟩
  | .hbm, ⟨2, _⟩ => ⟨S2x4096x2048, .f32⟩
  | .hbm, ⟨3, _⟩ => ⟨S1x2048x2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2x4096x5168 : Shape := ⟨3, ![2, 4096, 5168]⟩
abbrev S3x128 : Shape := ⟨2, ![3, 128]⟩
abbrev S32x128 : Shape := ⟨2, ![32, 128]⟩
abbrev S4096x128 : Shape := ⟨2, ![4096, 128]⟩
abbrev S128x128 : Shape := ⟨2, ![128, 128]⟩
abbrev S8192x5168 : Shape := ⟨2, ![8192, 5168]⟩
abbrev S8192x5120 : Shape := ⟨2, ![8192, 5120]⟩
abbrev S32x128x128 : Shape := ⟨3, ![32, 128, 128]⟩
abbrev S2x4x128x128 : Shape := ⟨4, ![2, 4, 128, 128]⟩
abbrev S2x4x4096x256 : Shape := ⟨4, ![2, 4, 4096, 256]⟩
abbrev S2x4096x512 : Shape := ⟨3, ![2, 4096, 512]⟩
abbrev S2x4x8x128x512 : Shape := ⟨5, ![2, 4, 8, 128, 512]⟩
abbrev S2x4x4608x128 : Shape := ⟨4, ![2, 4, 4608, 128]⟩
abbrev S2x512x512 : Shape := ⟨3, ![2, 512, 512]⟩
abbrev S2x4x36x128x128 : Shape := ⟨5, ![2, 4, 36, 128, 128]⟩
abbrev S1x1x128x128 : Shape := ⟨4, ![1, 1, 128, 128]⟩
abbrev S1x1x4096x256 : Shape := ⟨4, ![1, 1, 4096, 256]⟩
abbrev S1x4096x128 : Shape := ⟨3, ![1, 4096, 128]⟩
abbrev S1x1x8x128x512 : Shape := ⟨5, ![1, 1, 8, 128, 512]⟩
abbrev S1x1x4608x128 : Shape := ⟨4, ![1, 1, 4608, 128]⟩
abbrev S1x512x128 : Shape := ⟨3, ![1, 512, 128]⟩
abbrev S1x1x36x128x128 : Shape := ⟨5, ![1, 1, 36, 128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S512x128 : Shape := ⟨2, ![512, 128]⟩
abbrev S1x1x512x128 : Shape := ⟨4, ![1, 1, 512, 128]⟩
abbrev S1x1x1x128x128 : Shape := ⟨5, ![1, 1, 1, 128, 128]⟩
abbrev S128x512 : Shape := ⟨2, ![128, 512]⟩
abbrev S1x1x1x128x512 : Shape := ⟨5, ![1, 1, 1, 128, 512]⟩
abbrev S512 : Shape := ⟨1, ![512]⟩
abbrev S512x1 : Shape := ⟨2, ![512, 1]⟩

abbrev nBuf : Space → Nat
  | .hbm => 24
  | .vmem => 35
  | .smem => 0
  | _ => 0

abbrev bufTy : (tb : Table) → Fin (tcTables nBuf tb) → BufTy
  | .hbm, ⟨0, _⟩ => ⟨S2x4096x5168, .f32⟩
  | .hbm, ⟨1, _⟩ => ⟨S3x128, .f32⟩
  | .hbm, ⟨2, _⟩ => ⟨S32x128, .f32⟩
  | .hbm, ⟨3, _⟩ => ⟨S32x128, .f32⟩
  | .hbm, ⟨4, _⟩ => ⟨S4096x128, .f32⟩
  | .hbm, ⟨5, _⟩ => ⟨S128x128, .f32⟩
  | .hbm, ⟨6, _⟩ => ⟨S4096x128, .f32⟩
  | .hbm, ⟨7, _⟩ => ⟨S128x128, .f32⟩
  | .hbm, ⟨8, _⟩ => ⟨S8192x5168, .f32⟩
  | .hbm, ⟨9, _⟩ => ⟨S8192x5120, .f32⟩
  | .hbm, ⟨10, _⟩ => ⟨S32x128x128, .f32⟩
  | .hbm, ⟨11, _⟩ => ⟨S32x128x128, .bf16⟩
  | .hbm, ⟨12, _⟩ => ⟨S128x128, .bf16⟩
  | .hbm, ⟨13, _⟩ => ⟨S32x128x128, .f32⟩
  | .hbm, ⟨14, _⟩ => ⟨S32x128x128, .bf16⟩
  | .hbm, ⟨15, _⟩ => ⟨S128x128, .bf16⟩
  | .hbm, ⟨16, _⟩ => ⟨S2x4x128x128, .f32⟩
  | .hbm, ⟨17, _⟩ => ⟨S2x4x128x128, .f32⟩
  | .hbm, ⟨18, _⟩ => ⟨S2x4x4096x256, .bf16⟩
  | .hbm, ⟨19, _⟩ => ⟨S2x4096x512, .f32⟩
  | .hbm, ⟨20, _⟩ => ⟨S2x4x8x128x512, .bf16⟩
  | .hbm, ⟨21, _⟩ => ⟨S2x4x4608x128, .bf16⟩
  | .hbm, ⟨22, _⟩ => ⟨S2x512x512, .f32⟩
  | .hbm, ⟨23, _⟩ => ⟨S2x4x36x128x128, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S3x128, .f32⟩
  | .local _ .vmem, ⟨13, _⟩ => ⟨S32x128, .f32⟩
  | .local _ .vmem, ⟨14, _⟩ => ⟨S32x128, .f32⟩
  | .local _ .vmem, ⟨15, _⟩ => ⟨S32x128x128, .bf16⟩
  | .local _ .vmem, ⟨16, _⟩ => ⟨S128x128, .bf16⟩
  | .local _ .vmem, ⟨17, _⟩ => ⟨S32x128x128, .bf16⟩
  | .local _ .vmem, ⟨18, _⟩ => ⟨S128x128, .bf16⟩
  | .local _ .vmem, ⟨19, _⟩ => ⟨S1x1x128x128, .f32⟩
  | .local _ .vmem, ⟨20, _⟩ => ⟨S1x1x128x128, .f32⟩
  | .local _ .vmem, ⟨21, _⟩ => ⟨S1x1x128x128, .f32⟩
  | .local _ .vmem, ⟨22, _⟩ => ⟨S1x1x128x128, .f32⟩
  | .local _ .vmem, ⟨23, _⟩ => ⟨S1x1x4096x256, .bf16⟩
  | .local _ .vmem, ⟨24, _⟩ => ⟨S1x1x4096x256, .bf16⟩
  | .local _ .vmem, ⟨25, _⟩ => ⟨S1x4096x128, .f32⟩
  | .local _ .vmem, ⟨26, _⟩ => ⟨S1x4096x128, .f32⟩
  | .local _ .vmem, ⟨27, _⟩ => ⟨S1x1x8x128x512, .bf16⟩
  | .local _ .vmem, ⟨28, _⟩ => ⟨S1x1x8x128x512, .bf16⟩
  | .local _ .vmem, ⟨29, _⟩ => ⟨S1x1x4608x128, .bf16⟩
  | .local _ .vmem, ⟨30, _⟩ => ⟨S1x1x4608x128, .bf16⟩
  | .local _ .vmem, ⟨31, _⟩ => ⟨S1x512x128, .f32⟩
  | .local _ .vmem, ⟨32, _⟩ => ⟨S1x512x128, .f32⟩
  | .local _ .vmem, ⟨33, _⟩ => ⟨S1x1x36x128x128, .bf16⟩
  | .local _ .vmem, ⟨34, _⟩ => ⟨S1x1x36x128x128, .bf16⟩
  | _, _ => ⟨S2x4096x5168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c32_i32 : BitVec 32 := 32#32
  let v717 : BitVec 32 := Scalar.addi c0_i32 c32_i32
  let c1_i32 : BitVec 32 := 1#32
  ⟨c0_i32, v717, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v736 : BitVec 32 := Scalar.muli arg23 c128_i32
  v736
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v736 : BitVec 32 := Scalar.muli arg23 c128_i32
  let v737 : BitVec 32 := v736
  let v738 : Index := Scalar.indexCast v737
  let c0_552 : Index := 0#32
  ![v738.toNat, 0]
def k0_off2 (k0_t1 : Fin k0_t1_loop.trips) : Fin 3 → Nat :=
  let c0_556 : Index := 0#32
  let c0_i32 : BitVec 32 := 0#32
  let c1_i32 : BitVec 32 := 1#32
  let arg23 : BitVec 32 := Scf.iv c0_i32 c1_i32 k0_t1
  let c128_i32 : BitVec 32 := 128#32
  let v736 : BitVec 32 := Scalar.muli arg23 c128_i32
  let v737 : BitVec 32 := v736
  let v753 : Index := Scalar.indexCast v737
  let c0_557 : Index := 0#32
  ![0, v753.toNat, 0]
def k0_off3 (k0_t1 : Fin k0_t1_loop.trips) : Fin 4 → Nat :=
  let c0_558 : Index := 0#32
  let c0_559 : Index := 0#32
  let c0_i32 : BitVec 32 := 0#32
  let c1_i32 : BitVec 32 := 1#32
  let arg23 : BitVec 32 := Scf.iv c0_i32 c1_i32 k0_t1
  let c128_i32 : BitVec 32 := 128#32
  let v736 : BitVec 32 := Scalar.muli arg23 c128_i32
  let v737 : BitVec 32 := v736
  let v758 : Index := Scalar.indexCast v737
  let c0_560 : Index := 0#32
  ![0, 0, v758.toNat, 0]
def k0_off4 (k0_t1 : Fin k0_t1_loop.trips) : Fin 4 → Nat :=
  let c0_567 : Index := 0#32
  let c0_568 : Index := 0#32
  let c0_i32 : BitVec 32 := 0#32
  let c1_i32 : BitVec 32 := 1#32
  let arg23 : BitVec 32 := Scf.iv c0_i32 c1_i32 k0_t1
  let c128_i32 : BitVec 32 := 128#32
  let v736 : BitVec 32 := Scalar.muli arg23 c128_i32
  let v737 : BitVec 32 := v736
  let v795 : Index := Scalar.indexCast v737
  let c128 : Index := 128#32
  ![0, 0, v795.toNat, 128]
def k0_mult2 (k0_t1 : Fin k0_t1_loop.trips) : BitVec 32 :=
  let c512_i32 : BitVec 32 := 512#32
  let c0_i32 : BitVec 32 := 0#32
  let c1_i32 : BitVec 32 := 1#32
  let arg23 : BitVec 32 := Scf.iv c0_i32 c1_i32 k0_t1
  let c128_i32_573 : BitVec 32 := 128#32
  let v815 : BitVec 32 := Scalar.muli arg23 c128_i32_573
  let v816 : BitVec 32 := Scalar.addi c512_i32 v815
  v816
def k0_off5 (k0_t1 : Fin k0_t1_loop.trips) : Fin 4 → Nat :=
  let c0_574 : Index := 0#32
  let c0_575 : Index := 0#32
  let c512_i32 : BitVec 32 := 512#32
  let c0_i32 : BitVec 32 := 0#32
  let c1_i32 : BitVec 32 := 1#32
  let arg23 : BitVec 32 := Scf.iv c0_i32 c1_i32 k0_t1
  let c128_i32_573 : BitVec 32 := 128#32
  let v815 : BitVec 32 := Scalar.muli arg23 c128_i32_573
  let v816 : BitVec 32 := Scalar.addi c512_i32 v815
  let v817 : BitVec 32 := v816
  let v818 : Index := Scalar.indexCast v817
  let c0_576 : Index := 0#32
  ![0, 0, v818.toNat, 0]
def k0_off6 (k0_t1 : Fin k0_t1_loop.trips) : Fin 5 → Nat :=
  let c0_578 : Index := 0#32
  let c0_579 : Index := 0#32
  let c4_i32 : BitVec 32 := 4#32
  let c0_i32 : BitVec 32 := 0#32
  let c1_i32 : BitVec 32 := 1#32
  let arg23 : BitVec 32 := Scf.iv c0_i32 c1_i32 k0_t1
  let v827 : BitVec 32 := Scalar.addi c4_i32 arg23
  let v828 : Index := Scalar.indexCast v827
  let c0_580 : Index := 0#32
  let c0_581 : Index := 0#32
  ![0, 0, v828.toNat, 0, 0]
@[reducible] def k0_t2_loop : Scf.Loop 32 :=
  let c0_i32_542 : BitVec 32 := 0#32
  let c8_i32 : BitVec 32 := 8#32
  let v718 : BitVec 32 := Scalar.addi c0_i32_542 c8_i32
  let c1_i32_543 : BitVec 32 := 1#32
  ⟨c0_i32_542, v718, c1_i32_543⟩
def k0_mult3 (k0_t2 : Fin k0_t2_loop.trips) : BitVec 32 :=
  let c0_i32_542 : BitVec 32 := 0#32
  let c1_i32_543 : BitVec 32 := 1#32
  let arg23 : BitVec 32 := Scf.iv c0_i32_542 c1_i32_543 k0_t2
  let c512_i32 : BitVec 32 := 512#32
  let v736 : BitVec 32 := Scalar.muli arg23 c512_i32
  v736
def k0_off7 (k0_t2 : Fin k0_t2_loop.trips) : Fin 2 → Nat :=
  let c0_i32_542 : BitVec 32 := 0#32
  let c1_i32_543 : BitVec 32 := 1#32
  let arg23 : BitVec 32 := Scf.iv c0_i32_542 c1_i32_543 k0_t2
  let c512_i32 : BitVec 32 := 512#32
  let v736 : BitVec 32 := Scalar.muli arg23 c512_i32
  let v737 : BitVec 32 := v736
  let v738 : Index := Scalar.indexCast v737
  let c0_552 : Index := 0#32
  ![v738.toNat, 0]
def k0_off8 (k0_t2 : Fin k0_t2_loop.trips) : Fin 5 → Nat :=
  let c0_553 : Index := 0#32
  let c0_554 : Index := 0#32
  let c0_i32_542 : BitVec 32 := 0#32
  let c1_i32_543 : BitVec 32 := 1#32
  let arg23 : BitVec 32 := Scf.iv c0_i32_542 c1_i32_543 k0_t2
  let v743 : Index := Scalar.indexCast arg23
  let c0_555 : Index := 0#32
  let c0_556 : Index := 0#32
  ![0, 0, v743.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x4096x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x8x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x4608x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x36x128x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference7Ideal.lean ====
abbrev S2x4096x5168 : Shape := ⟨3, ![2, 4096, 5168]⟩
abbrev S3x128 : Shape := ⟨2, ![3, 128]⟩
abbrev S32x128 : Shape := ⟨2, ![32, 128]⟩
abbrev S4096x128 : Shape := ⟨2, ![4096, 128]⟩
abbrev S128x128 : Shape := ⟨2, ![128, 128]⟩
abbrev S2x4096x2048 : Shape := ⟨3, ![2, 4096, 2048]⟩
abbrev S2x4096x512 : Shape := ⟨3, ![2, 4096, 512]⟩
abbrev S2x4096x48 : Shape := ⟨3, ![2, 4096, 48]⟩
abbrev S2x4096x4x128 : Shape := ⟨4, ![2, 4096, 4, 128]⟩
abbrev S1x128 : Shape := ⟨2, ![1, 128]⟩
abbrev S128 : Shape := ⟨1, ![128]⟩
abbrev S_ : Shape := ⟨0, ![]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S2x128x32x4x128 : Shape := ⟨5, ![2, 128, 32, 4, 128]⟩
abbrev S1x1x32x1x128 : Shape := ⟨5, ![1, 1, 32, 1, 128]⟩
abbrev S2x128x4x32x128 : Shape := ⟨5, ![2, 128, 4, 32, 128]⟩
abbrev S2x128x4x4096 : Shape := ⟨4, ![2, 128, 4, 4096]⟩
abbrev S2x128x4x128 : Shape := ⟨4, ![2, 128, 4, 128]⟩
abbrev S2x128x4 : Shape := ⟨3, ![2, 128, 4]⟩
abbrev S2x128x4x1 : Shape := ⟨4, ![2, 128, 4, 1]⟩
abbrev S2x512x4x128 : Shape := ⟨4, ![2, 512, 4, 128]⟩
abbrev S2x4x128x128 : Shape := ⟨4, ![2, 4, 128, 128]⟩
abbrev S2x512x512 : Shape := ⟨3, ![2, 512, 512]⟩

abbrev nBuf : Space → Nat
  | .hbm => 135
  | .vmem => 0
  | .smem => 0
  | _ => 0

abbrev hbmTy0_0 (i : Nat) : BufTy := match i % 128 with
  | 0 => ⟨S2x4096x5168, .f32⟩
  | 1 => ⟨S3x128, .f32⟩
  | 2 => ⟨S32x128, .f32⟩
  | 3 => ⟨S32x128, .f32⟩
  | 4 => ⟨S4096x128, .f32⟩
  | 5 => ⟨S128x128, .f32⟩
  | 6 => ⟨S4096x128, .f32⟩
  | 7 => ⟨S128x128, .f32⟩
  | 8 => ⟨S2x4096x2048, .f32⟩
  | 9 => ⟨S2x4096x512, .f32⟩
  | 10 => ⟨S2x4096x512, .f32⟩
  | 11 => ⟨S2x4096x512, .f32⟩
  | 12 => ⟨S2x4096x512, .f32⟩
  | 13 => ⟨S2x4096x512, .f32⟩
  | 14 => ⟨S2x4096x512, .f32⟩
  | 15 => ⟨S2x4096x48, .f32⟩
  | 16 => ⟨S2x4096x4x128, .f32⟩
  | 17 => ⟨S2x4096x4x128, .f32⟩
  | 18 => ⟨S2x4096x4x128, .f32⟩
  | 19 => ⟨S1x128, .f32⟩
  | 20 => ⟨S128, .f32⟩
  | 21 => ⟨S2x4096x4x128, .f32⟩
  | 22 => ⟨S_, .f32⟩
  | 23 => ⟨S2x4096x4, .f32⟩
  | 24 => ⟨S2x4096x4x1, .f32⟩
  | 25 => ⟨S_, .f32⟩
  | 26 => ⟨S2x4096x4x1, .f32⟩
  | 27 => ⟨S2x4096x4x1, .f32⟩
  | 28 => ⟨S_, .f32⟩
  | 29 => ⟨S2x4096x4x1, .f32⟩
  | 30 => ⟨S2x4096x4x1, .f32⟩
  | 31 => ⟨S2x4096x4x1, .f32⟩
  | 32 => ⟨S2x4096x4x128, .f32⟩
  | 33 => ⟨S2x4096x4x128, .f32⟩
  | 34 => ⟨S1x1x1x128, .f32⟩
  | 35 => ⟨S2x4096x4x128, .f32⟩
  | 36 => ⟨S2x4096x4x128, .f32⟩
  | 37 => ⟨S2x4096x4x128, .f32⟩
  | 38 => ⟨S1x128, .f32⟩
  | 39 => ⟨S128, .f32⟩
  | 40 => ⟨S2x4096x4x128, .f32⟩
  | 41 => ⟨S_, .f32⟩
  | 42 => ⟨S2x4096x4, .f32⟩
  | 43 => ⟨S2x4096x4x1, .f32⟩
  | 44 => ⟨S_, .f32⟩
  | 45 => ⟨S2x4096x4x1, .f32⟩
  | 46 => ⟨S2x4096x4x1, .f32⟩
  | 47 => ⟨S_, .f32⟩
  | 48 => ⟨S2x4096x4x1, .f32⟩
  | 49 => ⟨S2x4096x4x1, .f32⟩
  | 50 => ⟨S2x4096x4x1, .f32⟩
  | 51 => ⟨S2x4096x4x128, .f32⟩
  | 52 => ⟨S2x4096x4x128, .f32⟩
  | 53 => ⟨S1x1x1x128, .f32⟩
  | 54 => ⟨S2x4096x4x128, .f32⟩
  | 55 => ⟨S2x4096x4x128, .f32⟩
  | 56 => ⟨S_, .i32⟩
  | 57 => ⟨S_, .f32⟩
  | 58 => ⟨S2x4096x4x128, .f32⟩
  | 59 => ⟨S2x128x32x4x128, .f32⟩
  | 60 => ⟨S1x1x32x1x128, .f32⟩
  | 61 => ⟨S2x128x32x4x128, .f32⟩
  | 62 => ⟨S2x128x32x4x128, .f32⟩
  | 63 => ⟨S2x128x4x32x128, .f32⟩
  | 64 => ⟨S2x128x4x4096, .f32⟩
  | 65 => ⟨S2x128x4x128, .f32⟩
  | 66 => ⟨S2x128x4x128, .f32⟩
  | 67 => ⟨S2x128x4x128, .f32⟩
  | 68 => ⟨S_, .f32⟩
  | 69 => ⟨S2x128x4x128, .f32⟩
  | 70 => ⟨S2x128x4x128, .f32⟩
  | 71 => ⟨S2x128x4x128, .f32⟩
  | 72 => ⟨S_, .f32⟩
  | 73 => ⟨S2x128x4x128, .f32⟩
  | 74 => ⟨S2x128x4x128, .f32⟩
  | 75 => ⟨S2x128x4x128, .f32⟩
  | 76 => ⟨S_, .f32⟩
  | 77 => ⟨S2x128x4x128, .f32⟩
  | 78 => ⟨S2x128x4x128, .f32⟩
  | 79 => ⟨S_, .f32⟩
  | 80 => ⟨S2x128x4x128, .f32⟩
  | 81 => ⟨S2x128x4x128, .f32⟩
  | 82 => ⟨S2x128x4x128, .f32⟩
  | 83 => ⟨S2x128x4x128, .f32⟩
  | 84 => ⟨S1x128, .f32⟩
  | 85 => ⟨S128, .f32⟩
  | 86 => ⟨S2x128x4x128, .f32⟩
  | 87 => ⟨S_, .f32⟩
  | 88 => ⟨S2x128x4, .f32⟩
  | 89 => ⟨S2x128x4x1, .f32⟩
  | 90 => ⟨S_, .f32⟩
  | 91 => ⟨S2x128x4x1, .f32⟩
  | 92 => ⟨S2x128x4x1, .f32⟩
  | 93 => ⟨S_, .f32⟩
  | 94 => ⟨S2x128x4x1, .f32⟩
  | 95 => ⟨S2x128x4x1, .f32⟩
  | 96 => ⟨S2x128x4x1, .f32⟩
  | 97 => ⟨S2x128x4x128, .f32⟩
  | 98 => ⟨S2x128x4x128, .f32⟩
  | 99 => ⟨S1x1x1x128, .f32⟩
  | 100 => ⟨S2x128x4x128, .f32⟩
  | 101 => ⟨S2x128x4x128, .f32⟩
  | 102 => ⟨S_, .i32⟩
  | 103 => ⟨S_, .f32⟩
  | 104 => ⟨S2x4096x4x128, .f32⟩
  | 105 => ⟨S2x128x32x4x128, .f32⟩
  | 106 => ⟨S1x1x32x1x128, .f32⟩
  | 107 => ⟨S2x128x32x4x128, .f32⟩
  | 108 => ⟨S2x128x32x4x128, .f32⟩
  | 109 => ⟨S2x128x4x32x128, .f32⟩
  | 110 => ⟨S2x128x4x4096, .f32⟩
  | 111 => ⟨S2x128x4x128, .f32⟩
  | 112 => ⟨S2x128x4x128, .f32⟩
  | 113 => ⟨S2x128x4x128, .f32⟩
  | 114 => ⟨S_, .f32⟩
  | 115 => ⟨S2x128x4x128, .f32⟩
  | 116 => ⟨S2x128x4x128, .f32⟩
  | 117 => ⟨S2x128x4x128, .f32⟩
  | 118 => ⟨S_, .f32⟩
  | 119 => ⟨S2x128x4x128, .f32⟩
  | 120 => ⟨S2x128x4x128, .f32⟩
  | 121 => ⟨S2x128x4x128, .f32⟩
  | 122 => ⟨S_, .f32⟩
  | 123 => ⟨S2x128x4x128, .f32⟩
  | 124 => ⟨S2x128x4x128, .f32⟩
  | 125 => ⟨S_, .f32⟩
  | 126 => ⟨S2x128x4x128, .f32⟩
  | 127 => ⟨S2x128x4x128, .f32⟩
  | _ => ⟨S2x4096x5168, .f32⟩

abbrev hbmTy0_1 (i : Nat) : BufTy := match i % 128 with
  | 0 => ⟨S2x128x4x128, .f32⟩
  | 1 => ⟨S2x128x4x128, .f32⟩
  | 2 => ⟨S2x512x4x128, .f32⟩
  | 3 => ⟨S2x4x128x128, .f32⟩
  | 4 => ⟨S2x4x128x128, .f32⟩
  | 5 => ⟨S2x4096x512, .f32⟩
  | 6 => ⟨S2x512x512, .f32⟩
  | _ => ⟨S2x4096x5168, .f32⟩

abbrev hbmTy (i : Nat) : BufTy := match i / 128 with
  | 0 => hbmTy0_0 i
  | 1 => hbmTy0_1 i
  | _ => ⟨S2x4096x5168, .f32⟩

abbrev bufTy : (tb : Table) → Fin (tcTables nBuf tb) → BufTy
  | .hbm, ⟨i, _⟩ => hbmTy i
  | _, _ => ⟨S2x4096x5168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_12 : Ref sig .tc := ⟨.hbm, 102, rfl⟩
abbrev main_call1_v0 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_cst_16 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Proof.WindowMath.lean ====
/-
  Softmax attention of one query over 512 cached keys and one new key, over the extended reals: the kernel's form, which
  keeps the new key's score apart and divides once at the end, and the reference's form, which lays the new key behind the
  cached ones and divides every weight. They agree when the scores are finite.
-/
module

public import Idealize.ShloMosaic.Lib.Pointwise
public import Idealize.ShloMosaic.Lib.IdealHost
public import Idealize.ShloMosaic.PureOps.Ideal

@[expose] public section

noncomputable section

namespace Cert.Window

open Idealize.ShloMosaic

/-- An extended real that is a real number. -/
def Finite (x : EReal) : Prop := ∃ r : ℝ, x = (r : EReal)

/-- A product of real numbers is one. -/
theorem Finite.mul {x y : EReal} (hx : Finite x) (hy : Finite y) : Finite (x * y) := by
  obtain ⟨a, rfl⟩ := hx; obtain ⟨b, rfl⟩ := hy; exact ⟨a * b, (EReal.coe_mul a b).symm⟩

/-- A sum of two real numbers is one. -/
theorem Finite.add {x y : EReal} (hx : Finite x) (hy : Finite y) : Finite (x + y) := by
  obtain ⟨a, rfl⟩ := hx; obtain ⟨b, rfl⟩ := hy; exact ⟨a + b, (EReal.coe_add a b).symm⟩

/-- A finite sum of real numbers, as extended reals, is their sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is one. -/
theorem Finite.sum {ι : Type} (s : Finset ι) {f : ι → EReal} (hf : ∀ i, Finite (f i)) : Finite (∑ i ∈ s, f i) := by
  choose g hg using hf
  exact ⟨∑ i ∈ s, g i, by rw [coe_sum]; exact Finset.sum_congr rfl fun i _ => hg i⟩

/-- A sum times a factor that is not negative and not infinite is the sum of the products, whatever the terms. -/
theorem sum_mul_nonneg {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The word of minus infinity. -/
theorem ofBits_neg_inf : Ideal.ofBits FTy.f32 0xFF800000#32 = ⊥ := by
  simp [Ideal.ofBits, Ideal.ieee]

/-- The word of plus infinity. -/
theorem ofBits_inf : Ideal.ofBits FTy.f32 0x7F800000#32 = ⊤ := by
  simp [Ideal.ofBits, Ideal.ieee]

/-- The scale of the scores is a positive real number. -/
theorem scale_real : ∃ c : ℝ, 0 < c ∧ Ideal.ofBits FTy.f32 0x3DB504F3#32 = (c : EReal) := by
  refine ⟨11863283 / 2 ^ 27, by norm_num, ?_⟩
  simp [Ideal.ofBits, Ideal.ieee, -EReal.coe_mul]; norm_num

/-- The head width 128 of the mean. -/
theorem width_real : Ideal.ofBits FTy.f32 0x43000000#32 = ((128 : ℝ) : EReal) := by
  simp [Ideal.ofBits, Ideal.ieee, -EReal.coe_mul]; norm_num

/-- The norm's small constant is a positive real number. -/
theorem eps_real : ∃ c : ℝ, 0 < c ∧ Ideal.ofBits FTy.f32 0x358637BD#32 = (c : EReal) := by
  refine ⟨8796093 / 2 ^ 43, by norm_num, ?_⟩
  simp [Ideal.ofBits, Ideal.ieee, -EReal.coe_mul]; norm_num

/-- Entry `d` of the normalised new key: its value times one over the root of the mean square plus a small constant, times
    the gain. -/
def rmsNorm (x w : Fin 128 → EReal) (d : Fin 128) : EReal :=
  x d * Ideal.rsqrt (Ideal.div (∑ j : Fin 128, x j * x j) (Ideal.ofBits FTy.f32 0x43000000#32) + Ideal.ofBits FTy.f32 0x358637BD#32) * w d

/-- A finite row has a finite norm. -/
theorem rmsNorm_finite {x w : Fin 128 → EReal} (hx : ∀ d, Finite (x d)) (hw : ∀ d, Finite (w d)) (d : Fin 128) :
    Finite (rmsNorm x w d) := by
  refine Finite.mul (Finite.mul (hx d) ?_) (hw d)
  choose a ha using hx
  obtain ⟨e, he, hE⟩ := eps_real
  have hs : (∑ j : Fin 128, x j * x j) = ((∑ j : Fin 128, a j * a j : ℝ) : EReal) := by
    rw [coe_sum]; exact Finset.sum_congr rfl fun j _ => by rw [ha j, EReal.coe_mul]
  have h0 : (0 : ℝ) ≤ ∑ j : Fin 128, a j * a j := Finset.sum_nonneg fun j _ => mul_self_nonneg (a j)
  rw [hs, hE, width_real, Ideal.div_coe (by norm_num : (128 : ℝ) ≠ 0), ← EReal.coe_mul, ← EReal.coe_add]
  have hp : 0 < (∑ j : Fin 128, a j * a j) * (1 / 128) + e := by positivity
  refine ⟨(Real.sqrt ((∑ j : Fin 128, a j * a j) * (1 / 128) + e))⁻¹, ?_⟩
  show (if _ < 0 then _ else if _ = 0 then _ else _) = _
  rw [if_neg (not_lt.mpr hp.le), if_neg hp.ne']

/-- The logistic function, spelt out. -/
def gate (x : EReal) : EReal := Ideal.div 1 (1 + Ideal.exp (-x))

/-- The kernel's form: scores `s` of the cached keys and `n` of the new one, values `V` and `v`. -/
def split (s : Fin 512 → EReal) (n : EReal) (V : Fin 512 → EReal) (v : EReal) : EReal :=
  Ideal.div
    (∑ j, Ideal.exp (s j - max (Finset.fold max (Ideal.ofBits FTy.f32 0xFF800000#32) s Finset.univ) n) * V j
      + Ideal.exp (n - max (Finset.fold max (Ideal.ofBits FTy.f32 0xFF800000#32) s Finset.univ) n) * v)
    (∑ j, Ideal.exp (s j - max (Finset.fold max (Ideal.ofBits FTy.f32 0xFF800000#32) s Finset.univ) n)
      + Ideal.exp (n - max (Finset.fold max (Ideal.ofBits FTy.f32 0xFF800000#32) s Finset.univ) n))

/-- The greatest of the scores, as the reference takes it. -/
def top (t : Fin 513 → EReal) : EReal :=
  max (Ideal.ofBits FTy.f32 0xFF800000#32) (Finset.fold max (Ideal.ofBits FTy.f32 0xFF800000#32) t Finset.univ)

/-- The reference's form: scores `t` and values `U` over all 513 keys. -/
def whole (t U : Fin 513 → EReal) : EReal :=
  ∑ k, U k * Ideal.div (Ideal.exp (t k - top t)) (∑ j, Ideal.exp (t j - top t))

/-- A fold of maxima from minus infinity is the supremum. -/
theorem fold_max_eq_sup {n : Nat} (t : Fin n → EReal) :
    Finset.fold max (Ideal.ofBits FTy.f32 0xFF800000#32) t Finset.univ = Finset.univ.sup t := by
  rw [ofBits_neg_inf]; rfl

/-- The greatest of 513 scores is the greater of the cached keys' greatest and the new key's. -/
theorem top_eq (t : Fin 513 → EReal) :
    top t = max (Finset.univ.sup fun j : Fin 512 => t j.castSucc) (t (Fin.last 512)) := by
  unfold top
  rw [fold_max_eq_sup, ofBits_neg_inf, max_eq_right bot_le]
  refine le_antisymm (Finset.sup_le fun k _ => ?_) (max_le (Finset.sup_le fun j _ => Finset.le_sup (Finset.mem_univ _)) (Finset.le_sup (Finset.mem_univ _)))
  refine Fin.lastCases ?_ (fun j => ?_) k
  · exact le_max_right _ _
  · exact le_max_of_le_left (Finset.le_sup (f := fun j : Fin 512 => t j.castSucc) (Finset.mem_univ j))

/-- A supremum of finitely many real numbers and one more is a real number. -/
theorem max_sup_finite (s : Fin 512 → ℝ) (n : ℝ) :
    ∃ M : ℝ, max (Finset.univ.sup fun j => (s j : EReal)) (n : EReal) = (M : EReal) := by
  have h1 : max (Finset.univ.sup fun j => (s j : EReal)) (n : EReal) ≠ ⊥ := fun h => by
    have := le_max_right (Finset.univ.sup fun j => (s j : EReal)) (n : EReal)
    rw [h] at this; exact absurd (le_bot_iff.mp this) (EReal.coe_ne_bot n)
  have h2 : max (Finset.univ.sup fun j => (s j : EReal)) (n : EReal) ≠ ⊤ := by
    refine ne_of_lt (max_lt ((Finset.sup_lt_iff bot_lt_top).mpr fun j _ => EReal.coe_lt_top _) (EReal.coe_lt_top _))
  exact ⟨_, (EReal.coe_toReal h2 h1).symm⟩

/-- The sum over 513 positions is the sum over the first 512 and the last. -/
theorem sum_split (f : Fin 513 → EReal) : ∑ k, f k = ∑ j : Fin 512, f j.castSucc + f (Fin.last 512) :=
  Fin.sum_univ_castSucc (n := 512) f

/-- With weights `e` that are positive real numbers, dividing the weighted sum once is dividing every weight. -/
theorem weighted (e : Fin 513 → ℝ) (he : ∀ k, 0 < e k) (U : Fin 513 → EReal) :
    Ideal.div (∑ j : Fin 512, (e j.castSucc : EReal) * U j.castSucc + (e (Fin.last 512) : EReal) * U (Fin.last 512))
        (∑ j : Fin 512, (e j.castSucc : EReal) + (e (Fin.last 512) : EReal))
      = ∑ k, U k * Ideal.div (e k : EReal) (∑ j, (e j : EReal)) := by
  have hpos : (0 : ℝ) < ∑ k : Fin 513, e k := Finset.sum_pos (fun k _ => he k) ⟨Fin.last 512, Finset.mem_univ _⟩
  rw [← sum_split (fun k => (e k : EReal)), ← sum_split (fun k => (e k : EReal) * U k), ← coe_sum Finset.univ e]
  generalize (∑ k : Fin 513, e k) = L at hpos ⊢
  have hc0 : (0 : EReal) ≤ ((1 / L : ℝ) : EReal) := EReal.coe_nonneg.mpr (by positivity)
  rw [Ideal.div_coe hpos.ne', sum_mul_nonneg _ _ hc0 (EReal.coe_ne_top _)]
  refine Finset.sum_congr rfl fun k _ => ?_
  rw [Ideal.div_coe hpos.ne', mul_comm (e k : EReal) (U k), mul_assoc]

/-- The two forms agree on finite scores, whatever the values. -/
theorem split_eq_whole {t U : Fin 513 → EReal} (ht : ∀ k, Finite (t k)) :
    split (fun j => t j.castSucc) (t (Fin.last 512)) (fun j => U j.castSucc) (U (Fin.last 512)) = whole t U := by
  have hm : max (Finset.fold max (Ideal.ofBits FTy.f32 0xFF800000#32) (fun j : Fin 512 => t j.castSucc) Finset.univ) (t (Fin.last 512)) = top t := by
    rw [fold_max_eq_sup]; exact (top_eq t).symm
  unfold split whole
  rw [hm]
  choose r hr using ht
  obtain ⟨M, hM⟩ := max_sup_finite (fun j => r j.castSucc) (r (Fin.last 512))
  have hT : top t = (M : EReal) := by
    rw [top_eq, ← hM]; simp only [hr]
  have he : ∀ k, Ideal.exp (t k - top t) = ((Real.exp (r k - M) : ℝ) : EReal) := fun k => by
    rw [hr k, hT, ← EReal.coe_sub]; rfl
  simp only [he]
  exact weighted (fun k => Real.exp (r k - M)) (fun k => Real.exp_pos _) U

/-- A score of the scaled query is the scaled score. -/
theorem score_scale (q k : Fin 128 → EReal) :
    ∑ d, q d * Ideal.ofBits FTy.f32 0x3DB504F3#32 * k d = (∑ d, k d * q d) * Ideal.ofBits FTy.f32 0x3DB504F3#32 := by
  obtain ⟨c, hc, hC⟩ := scale_real
  rw [hC, sum_mul_nonneg _ _ (EReal.coe_nonneg.mpr hc.le) (EReal.coe_ne_top c)]
  exact Finset.sum_congr rfl fun d _ => by rw [mul_right_comm, mul_comm (q d)]

/-- A score of a finite query and a finite key is finite. -/
theorem score_finite {q k : Fin 128 → EReal} (hq : ∀ d, Finite (q d)) (hk : ∀ d, Finite (k d)) :
    Finite ((∑ d, k d * q d) * Ideal.ofBits FTy.f32 0x3DB504F3#32) := by
  obtain ⟨c, -, hC⟩ := scale_real
  exact Finite.mul (Finite.sum _ fun d => Finite.mul (hk d) (hq d)) ⟨c, hC⟩

end Cert.Window
-- ==== Proof.WindowHead.lean ====
module

public import proofs.«01_k».proof.Proof.WindowMath
public import proofs.«01_k».proof.Proof.Gen.KernelIdeal.Value
public import Idealize.ShloMosaic.Lib.Pointwise

/-!
What one step of the window-attention kernel computes, entry by entry, from the nine blocks it reads.

The step handles one sample. Its first result is, for each of the four key-value heads and the four query
heads that share it, a gated sum of three attention outputs of which the third is computed here; its second
and third results are the sliding window of keys and of values, moved up by one row with the new row at the
end. The kernel stores the first result in sixteen pieces of 128 columns and the other two in four.
-/

@[expose] public section

set_option maxRecDepth 16384

noncomputable section

namespace Cert.Window

open Cert.KernelIdeal Cert.KernelIdeal.Gen Idealize.ShloMosaic

/-- Column `d` of head `h` among the 512 columns of the four heads side by side. -/
def lane (h : Fin 4) (d : Fin 128) : Fin 512 := ⟨h.val * 128 + d.val, by omega⟩

/-- Entry `r` of the column of gates: the kernel turns the row of gates into a column by multiplying with
    the identity matrix. -/
def gateCol (x : Vec Ideal S1x1x128 .f32) (r : Fin 128) : EReal := k0_pay3 (View.ld x r0_0) (ix2 r 0)

/-- The gated sum of three attention outputs, the third being the attention over cached and new keys. -/
def mixed (q : Fin 128 → EReal) (K : Fin 512 → Fin 128 → EReal) (n : Fin 128 → EReal)
    (V : Fin 512 → EReal) (v a c b s e : EReal) : EReal :=
  a * c + b * s + e * split (fun j => ∑ d, q d * K j d) (∑ d, q d * n d) V v

section

variable (x0 x1 x2 : Vec Ideal S1x4x8x128 .f32) (x3 x4 : Vec Ideal S1x1x512 .f32)
  (x5 : Vec Ideal S1x1x128 .f32) (x6 : Vec Ideal S3x128 .f32) (x7 x8 : Vec Ideal S1x1x512x512 .f32)

/-- Entry `d` of the step's first result for key-value head `h` and its query head `g`. -/
def headOut (h g : Fin 4) (d : Fin 128) : EReal :=
  mixed (fun k => x0 (ix4 0 h ⟨g.val, by omega⟩ k)) (fun j k => x7 (ix4 0 0 j (lane h k)))
    (rmsNorm (fun k => x3 (ix3 0 0 (lane h k))) (fun k => x6 (ix2 2 k)))
    (fun j => x8 (ix4 0 0 j (lane h d))) (x4 (ix3 0 0 (lane h d)))
    (gateCol x5 ⟨h.val * 4 + g.val, by omega⟩) (x1 (ix4 0 h ⟨g.val, by omega⟩ d))
    (gateCol x5 ⟨16 + h.val * 4 + g.val, by omega⟩) (x2 (ix4 0 h ⟨g.val, by omega⟩ d))
    (gateCol x5 ⟨32 + h.val * 4 + g.val, by omega⟩)

/-- Entry `d` of row `r` of the new window of keys for head `h`: the next cached row, and in the last row
    the normalised new key. -/
def keyOut (h : Fin 4) (r : Fin 512) (d : Fin 128) : EReal :=
  Scalar.select (IntOp.cmpi .eq (BitVec.ofNat 32 r.val) 511#32)
    (rmsNorm (fun k => x3 (ix3 0 0 (lane h k))) (fun k => x6 (ix2 2 k)) d)
    (x7 (ix4 0 0 ⟨(r.val + 512 - 511) % 512, by omega⟩ (lane h d)))

/-- Entry `d` of row `r` of the new window of values for head `h`. -/
def valueOut (h : Fin 4) (r : Fin 512) (d : Fin 128) : EReal :=
  Scalar.select (IntOp.cmpi .eq (BitVec.ofNat 32 r.val) 511#32)
    (x4 (ix3 0 0 (lane h d)))
    (x8 (ix4 0 0 ⟨(r.val + 512 - 511) % 512, by omega⟩ (lane h d)))

set_option maxHeartbeats 2000000 in
/-- The piece of key-value head 0 and its query head 0. -/
theorem piece0 (d : Fin 128) :
    (k0_pay15 (k0_pay77 x0 x1 x2 x3 x4 x5 x6 x7 x8) (k0_pay78 x0 x1 x2 x3 x4 x5 x6 x7 x8) (k0_pay79 x0
    x1 x2 x3 x4 x5 x6 x7 x8) (k0_pay80 x0 x1 x2 x3 x4 x5 x6 x7 x8) (k0_pay81 x0 x1 x2 x3 x4 x5 x6 x7
    x8)) (ix3 0 0 d) =
      headOut x0 x1 x2 x3 x4 x5 x6 x7 x8 0 0 d := by
  pointwise [k0_pay15, k0_pay14, k0_pay77, k0_pay9, k0_pay7, k0_pay8, k0_pay4, k0_pay75, k0_pay5, k0_pay76,
    k0_pay6, k0_pay78, k0_pay10, k0_pay74, k0_pay79, k0_pay11, k0_pay80, k0_pay12, k0_pay81,
    k0_pay13, headOut, mixed, split, rmsNorm, lane, gateCol]

set_option maxHeartbeats 2000000 in
/-- The piece of key-value head 0 and its query head 1. -/
theorem piece1 (d : Fin 128) :
    (k0_pay16 (k0_pay77 x0 x1 x2 x3 x4 x5 x6 x7 x8) (k0_pay78 x0 x1 x2 x3 x4 x5 x6 x7 x8) (k0_pay79 x0
    x1 x2 x3 x4 x5 x6 x7 x8) (k0_pay80 x0 x1 x2 x3 x4 x5 x6 x7 x8) (k0_pay81 x0 x1 x2 x3 x4 x5 x6 x7
    x8)) (ix3 0 0 d) =
      headOut x0 x1 x2 x3 x4 x5 x6 x7 x8 0 1 d := by
  pointwise [k0_pay16, k0_pay14, k0_pay77, k0_pay9, k0_pay7, k0_pay8, k0_pay4, k0_pay75, k0_pay5, k0_pay76,
    k0_pay6, k0_pay78, k0_pay10, k0_pay74, k0_pay79, k0_pay11, k0_pay80, k0_pay12, k0_pay81,
    k0_pay13, headOut, mixed, split, rmsNorm, lane, gateCol]

set_option maxHeartbeats 2000000 in
/-- The piece of key-value head 0 and its query head 2. -/
theorem piece2 (d : Fin 128) :
    (k0_pay17 (k0_pay77 x0 x1 x2 x3 x4 x5 x6 x7 x8) (k0_pay78 x0 x1 x2 x3 x4 x5 x6 x7 x8) (k0_pay79 x0
    x1 x2 x3 x4 x5 x6 x7 x8) (k0_pay80 x0 x1 x2 x3 x4 x5 x6 x7 x8) (k0_pay81 x0 x1 x2 x3 x4 x5 x6 x7
    x8)) (ix3 0 0 d) =
      headOut x0 x1 x2 x3 x4 x5 x6 x7 x8 0 2 d := by
  pointwise [k0_pay17, k0_pay14, k0_pay77, k0_pay9, k0_pay7, k0_pay8, k0_pay4, k0_pay75, k0_pay5, k0_pay76,
    k0_pay6, k0_pay78, k0_pay10, k0_pay74, k0_pay79, k0_pay11, k0_pay80, k0_pay12, k0_pay81,
    k0_pay13, headOut, mixed, split, rmsNorm, lane, gateCol]

set_option maxHeartbeats 2000000 in
/-- The piece of key-value head 0 and its query head 3. -/
theorem piece3 (d : Fin 128) :
    (k0_pay18 (k0_pay77 x0 x1 x2 x3 x4 x5 x6 x7 x8) (k0_pay78 x0 x1 x2 x3 x4 x5 x6 x7 x8) (k0_pay79 x0
    x1 x2 x3 x4 x5 x6 x7 x8) (k0_pay80 x0 x1 x2 x3 x4 x5 x6 x7 x8) (k0_pay81 x0 x1 x2 x3 x4 x5 x6 x7
    x8)) (ix3 0 0 d) =
      headOut x0 x1 x2 x3 x4 x5 x6 x7 x8 0 3 d := by
  pointwise [k0_pay18, k0_pay14, k0_pay77, k0_pay9, k0_pay7, k0_pay8, k0_pay4, k0_pay75, k0_pay5, k0_pay76,
    k0_pay6, k0_pay78, k0_pay10, k0_pay74, k0_pay79, k0_pay11, k0_pay80, k0_pay12, k0_pay81,
    k0_pay13, headOut, mixed, split, rmsNorm, lane, gateCol]

set_option maxHeartbeats 2000000 in
/-- The piece of key-value head 1 and its query head 0. -/
theorem piece4 (d : Fin 128) :
    (k0_pay31 (k0_pay74 x0 x1 x2 x3 x4 x5 x6 x7 x8) (k0_pay82 x0 x1 x2 x3 x4 x5 x6 x7 x8) (k0_pay83 x0
    x1 x2 x3 x4 x5 x6 x7 x8) (k0_pay84 x0 x1 x2 x3 x4 x5 x6 x7 x8) (k0_pay85 x0 x1 x2 x3 x4 x5 x6 x7
    x8) (k0_pay86 x0 x1 x2 x3 x4 x5 x6 x7 x8) (View.ld x1 r0_10) (View.ld x2 r0_10)) (ix3 0 0 d) =
      headOut x0 x1 x2 x3 x4 x5 x6 x7 x8 1 0 d := by
  pointwise [k0_pay31, k0_pay30, k0_pay74, k0_pay82, k0_pay23, k0_pay83, k0_pay25, k0_pay84, k0_pay27, k0_pay85,
    k0_pay28, k0_pay26, k0_pay86, k0_pay29, k0_pay24, headOut, mixed, split, rmsNorm, lane, gateCol]

set_option maxHeartbeats 2000000 in
/-- The piece of key-value head 1 and its query head 1. -/
theorem piece5 (d : Fin 128) :
    (k0_pay33 (k0_pay32 (k0_pay74 x0 x1 x2 x3 x4 x5 x6 x7 x8) (k0_pay82 x0 x1 x2 x3 x4 x5 x6 x7 x8)
    (k0_pay83 x0 x1 x2 x3 x4 x5 x6 x7 x8) (k0_pay84 x0 x1 x2 x3 x4 x5 x6 x7 x8) (k0_pay85 x0 x1 x2
    x3 x4 x5 x6 x7 x8) (k0_pay86 x0 x1 x2 x3 x4 x5 x6 x7 x8) (View.ld x1 r0_10) (View.ld x2 r0_10))) (ix3 0 0 d) =
      headOut x0 x1 x2 x3 x4 x5 x6 x7 x8 1 1 d := by
  pointwise [k0_pay33, k0_pay32, k0_pay30, k0_pay74, k0_pay82, k0_pay23, k0_pay83, k0_pay25, k0_pay84, k0_pay27,
    k0_pay85, k0_pay28, k0_pay26, k0_pay86, k0_pay29, k0_pay24, headOut, mixed, split, rmsNorm,
    lane, gateCol]

set_option maxHeartbeats 2000000 in
/-- The piece of key-value head 1 and its query head 2. -/
theorem piece6 (d : Fin 128) :
    (k0_pay34 (k0_pay87 x0 x1 x2 x3 x4 x5 x6 x7 x8)) (ix3 0 0 d) =
      headOut x0 x1 x2 x3 x4 x5 x6 x7 x8 1 2 d := by
  pointwise [k0_pay34, k0_pay87, k0_pay30, k0_pay74, k0_pay82, k0_pay23, k0_pay83, k0_pay25, k0_pay84, k0_pay27,
    k0_pay85, k0_pay28, k0_pay26, k0_pay86, k0_pay29, k0_pay24, headOut, mixed, split, rmsNorm,
    lane, gateCol]

set_option maxHeartbeats 2000000 in
/-- The piece of key-value head 1 and its query head 3. -/
theorem piece7 (d : Fin 128) :
    (k0_pay35 (k0_pay87 x0 x1 x2 x3 x4 x5 x6 x7 x8)) (ix3 0 0 d) =
      headOut x0 x1 x2 x3 x4 x5 x6 x7 x8 1 3 d := by
  pointwise [k0_pay35, k0_pay87, k0_pay30, k0_pay74, k0_pay82, k0_pay23, k0_pay83, k0_pay25, k0_pay84, k0_pay27,
    k0_pay85, k0_pay28, k0_pay26, k0_pay86, k0_pay29, k0_pay24, headOut, mixed, split, rmsNorm,
    lane, gateCol]

set_option maxHeartbeats 2000000 in
/-- The piece of key-value head 2 and its query head 0. -/
theorem piece8 (d : Fin 128) :
    (k0_pay50 (k0_pay74 x0 x1 x2 x3 x4 x5 x6 x7 x8) (k0_pay89 x0 x1 x2 x3 x4 x5 x6 x7 x8) (k0_pay90 x0
    x1 x2 x3 x4 x5 x6 x7 x8) (k0_pay91 x0 x1 x2 x3 x4 x5 x6 x7 x8) (k0_pay92 x0 x1 x2 x3 x4 x5 x6 x7
    x8) (k0_pay93 x0 x1 x2 x3 x4 x5 x6 x7 x8) (View.ld x1 r0_18) (View.ld x2 r0_18)) (ix3 0 0 d) =
      headOut x0 x1 x2 x3 x4 x5 x6 x7 x8 2 0 d := by
  pointwise [k0_pay50, k0_pay49, k0_pay74, k0_pay89, k0_pay40, k0_pay90, k0_pay42, k0_pay91, k0_pay46, k0_pay45,
    k0_pay43, k0_pay41, k0_pay44, k0_pay39, k0_pay88, k0_pay38, k0_pay92, k0_pay47, k0_pay93,
    k0_pay48, headOut, mixed, split, rmsNorm, lane, gateCol]

set_option maxHeartbeats 2000000 in
/-- The piece of key-value head 2 and its query head 1. -/
theorem piece9 (d : Fin 128) :
    (k0_pay51 (k0_pay74 x0 x1 x2 x3 x4 x5 x6 x7 x8) (k0_pay89 x0 x1 x2 x3 x4 x5 x6 x7 x8) (k0_pay90 x0
    x1 x2 x3 x4 x5 x6 x7 x8) (k0_pay91 x0 x1 x2 x3 x4 x5 x6 x7 x8) (k0_pay92 x0 x1 x2 x3 x4 x5 x6 x7
    x8) (k0_pay93 x0 x1 x2 x3 x4 x5 x6 x7 x8) (View.ld x1 r0_18) (View.ld x2 r0_18)) (ix3 0 0 d) =
      headOut x0 x1 x2 x3 x4 x5 x6 x7 x8 2 1 d := by
  pointwise [k0_pay51, k0_pay49, k0_pay74, k0_pay89, k0_pay40, k0_pay90, k0_pay42, k0_pay91, k0_pay46, k0_pay45,
    k0_pay43, k0_pay41, k0_pay44, k0_pay39, k0_pay88, k0_pay38, k0_pay92, k0_pay47, k0_pay93,
    k0_pay48, headOut, mixed, split, rmsNorm, lane, gateCol]

set_option maxHeartbeats 2000000 in
/-- The piece of key-value head 2 and its query head 2. -/
theorem piece10 (d : Fin 128) :
    (k0_pay52 (k0_pay74 x0 x1 x2 x3 x4 x5 x6 x7 x8) (k0_pay89 x0 x1 x2 x3 x4 x5 x6 x7 x8) (k0_pay90 x0
    x1 x2 x3 x4 x5 x6 x7 x8) (k0_pay91 x0 x1 x2 x3 x4 x5 x6 x7 x8) (k0_pay92 x0 x1 x2 x3 x4 x5 x6 x7
    x8) (k0_pay93 x0 x1 x2 x3 x4 x5 x6 x7 x8) (View.ld x1 r0_18) (View.ld x2 r0_18)) (ix3 0 0 d) =
      headOut x0 x1 x2 x3 x4 x5 x6 x7 x8 2 2 d := by
  pointwise [k0_pay52, k0_pay49, k0_pay74, k0_pay89, k0_pay40, k0_pay90, k0_pay42, k0_pay91, k0_pay46, k0_pay45,
    k0_pay43, k0_pay41, k0_pay44, k0_pay39, k0_pay88, k0_pay38, k0_pay92, k0_pay47, k0_pay93,
    k0_pay48, headOut, mixed, split, rmsNorm, lane, gateCol]

set_option maxHeartbeats 2000000 in
/-- The piece of key-value head 2 and its query head 3. -/
theorem piece11 (d : Fin 128) :
    (k0_pay54 (k0_pay53 (k0_pay74 x0 x1 x2 x3 x4 x5 x6 x7 x8) (k0_pay89 x0 x1 x2 x3 x4 x5 x6 x7 x8)
    (k0_pay90 x0 x1 x2 x3 x4 x5 x6 x7 x8) (k0_pay91 x0 x1 x2 x3 x4 x5 x6 x7 x8) (k0_pay92 x0 x1 x2
    x3 x4 x5 x6 x7 x8) (k0_pay93 x0 x1 x2 x3 x4 x5 x6 x7 x8) (View.ld x1 r0_18) (View.ld x2 r0_18))) (ix3 0 0 d) =
      headOut x0 x1 x2 x3 x4 x5 x6 x7 x8 2 3 d := by
  pointwise [k0_pay54, k0_pay53, k0_pay49, k0_pay74, k0_pay89, k0_pay40, k0_pay90, k0_pay42, k0_pay91, k0_pay46,
    k0_pay45, k0_pay43, k0_pay41, k0_pay44, k0_pay39, k0_pay88, k0_pay38, k0_pay92, k0_pay47,
    k0_pay93, k0_pay48, headOut, mixed, split, rmsNorm, lane, gateCol]

set_option maxHeartbeats 2000000 in
/-- The piece of key-value head 3 and its query head 0. -/
theorem piece12 (d : Fin 128) :
    (k0_pay69 (k0_pay96 x0 x1 x2 x3 x4 x5 x6 x7 x8) (k0_pay97 x0 x1 x2 x3 x4 x5 x6 x7 x8) (k0_pay98 x0
    x1 x2 x3 x4 x5 x6 x7 x8) (k0_pay99 x0 x1 x2 x3 x4 x5 x6 x7 x8) (View.ld x1 r0_26) (View.ld x2
    r0_26)) (ix3 0 0 d) =
      headOut x0 x1 x2 x3 x4 x5 x6 x7 x8 3 0 d := by
  pointwise [k0_pay69, k0_pay68, k0_pay96, k0_pay64, k0_pay62, k0_pay60, k0_pay63, k0_pay61, k0_pay57, k0_pay94,
    k0_pay58, k0_pay95, k0_pay59, k0_pay97, k0_pay65, k0_pay74, k0_pay98, k0_pay66, k0_pay99,
    k0_pay67, headOut, mixed, split, rmsNorm, lane, gateCol]

set_option maxHeartbeats 2000000 in
/-- The piece of key-value head 3 and its query head 1. -/
theorem piece13 (d : Fin 128) :
    (k0_pay70 (k0_pay96 x0 x1 x2 x3 x4 x5 x6 x7 x8) (k0_pay97 x0 x1 x2 x3 x4 x5 x6 x7 x8) (k0_pay98 x0
    x1 x2 x3 x4 x5 x6 x7 x8) (k0_pay99 x0 x1 x2 x3 x4 x5 x6 x7 x8) (View.ld x1 r0_26) (View.ld x2
    r0_26)) (ix3 0 0 d) =
      headOut x0 x1 x2 x3 x4 x5 x6 x7 x8 3 1 d := by
  pointwise [k0_pay70, k0_pay68, k0_pay96, k0_pay64, k0_pay62, k0_pay60, k0_pay63, k0_pay61, k0_pay57, k0_pay94,
    k0_pay58, k0_pay95, k0_pay59, k0_pay97, k0_pay65, k0_pay74, k0_pay98, k0_pay66, k0_pay99,
    k0_pay67, headOut, mixed, split, rmsNorm, lane, gateCol]

set_option maxHeartbeats 2000000 in
/-- The piece of key-value head 3 and its query head 2. -/
theorem piece14 (d : Fin 128) :
    (k0_pay71 (k0_pay96 x0 x1 x2 x3 x4 x5 x6 x7 x8) (k0_pay97 x0 x1 x2 x3 x4 x5 x6 x7 x8) (k0_pay98 x0
    x1 x2 x3 x4 x5 x6 x7 x8) (k0_pay99 x0 x1 x2 x3 x4 x5 x6 x7 x8) (View.ld x1 r0_26) (View.ld x2
    r0_26)) (ix3 0 0 d) =
      headOut x0 x1 x2 x3 x4 x5 x6 x7 x8 3 2 d := by
  pointwise [k0_pay71, k0_pay68, k0_pay96, k0_pay64, k0_pay62, k0_pay60, k0_pay63, k0_pay61, k0_pay57, k0_pay94,
    k0_pay58, k0_pay95, k0_pay59, k0_pay97, k0_pay65, k0_pay74, k0_pay98, k0_pay66, k0_pay99,
    k0_pay67, headOut, mixed, split, rmsNorm, lane, gateCol]

set_option maxHeartbeats 2000000 in
/-- The piece of key-value head 3 and its query head 3. -/
theorem piece15 (d : Fin 128) :
    (k0_pay72 (k0_pay96 x0 x1 x2 x3 x4 x5 x6 x7 x8) (k0_pay97 x0 x1 x2 x3 x4 x5 x6 x7 x8) (k0_pay98 x0
    x1 x2 x3 x4 x5 x6 x7 x8) (k0_pay99 x0 x1 x2 x3 x4 x5 x6 x7 x8) (View.ld x1 r0_26) (View.ld x2
    r0_26)) (ix3 0 0 d) =
      headOut x0 x1 x2 x3 x4 x5 x6 x7 x8 3 3 d := by
  pointwise [k0_pay72, k0_pay68, k0_pay96, k0_pay64, k0_pay62, k0_pay60, k0_pay63, k0_pay61, k0_pay57, k0_pay94,
    k0_pay58, k0_pay95, k0_pay59, k0_pay97, k0_pay65, k0_pay74, k0_pay98, k0_pay66, k0_pay99,
    k0_pay67, headOut, mixed, split, rmsNorm, lane, gateCol]

set_option maxHeartbeats 2000000 in
/-- The key window's piece of head 0. -/
theorem keyPiece0 (r : Fin 512) (d : Fin 128) :
    (k0_pay19 (k0_pay75 x0 x1 x2 x3 x4 x5 x6 x7 x8) (k0_pay7 (View.ld x7 r0_4))) (ix3 0 r d) = keyOut x3 x6 x7 0 r d := by
  pointwise [k0_pay19, k0_pay75, k0_pay5, k0_pay7, keyOut, rmsNorm, lane]

set_option maxHeartbeats 2000000 in
/-- The key window's piece of head 1. -/
theorem keyPiece1 (r : Fin 512) (d : Fin 128) :
    (k0_pay36 (k0_pay24 (View.ld x3 r0_11) (View.ld x6 r0_3)) (k0_pay26 (View.ld x7 r0_12))) (ix3 0 r d) = keyOut x3 x6 x7 1 r d := by
  pointwise [k0_pay36, k0_pay24, k0_pay26, keyOut, rmsNorm, lane]

set_option maxHeartbeats 2000000 in
/-- The key window's piece of head 2. -/
theorem keyPiece2 (r : Fin 512) (d : Fin 128) :
    (k0_pay55 (k0_pay39 (View.ld x3 r0_19) (View.ld x6 r0_3)) (k0_pay41 (View.ld x7 r0_20))) (ix3 0 r d) = keyOut x3 x6 x7 2 r d := by
  pointwise [k0_pay55, k0_pay39, k0_pay41, keyOut, rmsNorm, lane]

set_option maxHeartbeats 2000000 in
/-- The key window's piece of head 3. -/
theorem keyPiece3 (r : Fin 512) (d : Fin 128) :
    (k0_pay1 (k0_pay73 (k0_pay60 (k0_pay94 x0 x1 x2 x3 x4 x5 x6 x7 x8) (View.ld x6 r0_3) (k0_pay95 x0 x1
    x2 x3 x4 x5 x6 x7 x8) (Scalar.ofBits .f32 0x358637BD#32)) (k0_pay62 (View.ld x7 r0_28)))) (ix3 0 r d) = keyOut x3 x6 x7 3 r d := by
  pointwise [k0_pay1, k0_pay73, k0_pay60, k0_pay94, k0_pay58, k0_pay95, k0_pay59, k0_pay62, keyOut, rmsNorm, lane]

set_option maxHeartbeats 2000000 in
/-- The value window's piece of head 0. -/
theorem valuePiece0 (r : Fin 512) (d : Fin 128) :
    (k0_pay22 (k0_pay76 x0 x1 x2 x3 x4 x5 x6 x7 x8) (k0_pay20 (k0_pay8 (View.ld x8 r0_4))) k0_pay21) (ix3 0 r d) = valueOut x4 x8 0 r d := by
  pointwise [k0_pay22, k0_pay76, k0_pay6, k0_pay20, k0_pay8, k0_pay21, valueOut, rmsNorm, lane]

set_option maxHeartbeats 2000000 in
/-- The value window's piece of head 1. -/
theorem valuePiece1 (r : Fin 512) (d : Fin 128) :
    (k0_pay37 (k0_pay83 x0 x1 x2 x3 x4 x5 x6 x7 x8) (k0_pay84 x0 x1 x2 x3 x4 x5 x6 x7 x8)) (ix3 0 r d) = valueOut x4 x8 1 r d := by
  pointwise [k0_pay37, k0_pay83, k0_pay25, k0_pay84, k0_pay27, valueOut, rmsNorm, lane]

set_option maxHeartbeats 2000000 in
/-- The value window's piece of head 2. -/
theorem valuePiece2 (r : Fin 512) (d : Fin 128) :
    (k0_pay56 (k0_pay89 x0 x1 x2 x3 x4 x5 x6 x7 x8) (k0_pay90 x0 x1 x2 x3 x4 x5 x6 x7 x8)) (ix3 0 r d) = valueOut x4 x8 2 r d := by
  pointwise [k0_pay56, k0_pay89, k0_pay40, k0_pay90, k0_pay42, valueOut, rmsNorm, lane]

set_option maxHeartbeats 2000000 in
/-- The value window's piece of head 3. -/
theorem valuePiece3 (r : Fin 512) (d : Fin 128) :
    (k0_pay2 (k0_pay61 (View.ld x4 r0_27)) (k0_pay63 (View.ld x8 r0_28))) (ix3 0 r d) = valueOut x4 x8 3 r d := by
  pointwise [k0_pay2, k0_pay61, k0_pay63, valueOut, rmsNorm, lane]

end

end Cert.Window
-- ==== Proof.WindowStep.lean ====
module

public import proofs.«01_k».proof.Proof.WindowHead
public import Idealize.ShloMosaic.Lib.Pipeline.Value

/-!
What one step of the window-attention kernel leaves in its three output blocks: the pieces it stores, put
together.
-/

@[expose] public section

set_option maxRecDepth 16384

noncomputable section

namespace Cert.Window

open Cert.KernelIdeal Cert.KernelIdeal.Gen Idealize.ShloMosaic

variable (x0 x1 x2 : Vec Ideal S1x4x8x128 .f32) (x3 x4 : Vec Ideal S1x1x512 .f32)
  (x5 : Vec Ideal S1x1x128 .f32) (x6 : Vec Ideal S3x128 .f32) (x7 x8 : Vec Ideal S1x1x512x512 .f32)

/-- `headOut` at equal indices. -/
theorem headOut_congr {h h' g g' : Fin 4} {d d' : Fin 128} (eh : h.val = h'.val) (eg : g.val = g'.val) (ed : d.val = d'.val) :
    headOut x0 x1 x2 x3 x4 x5 x6 x7 x8 h g d = headOut x0 x1 x2 x3 x4 x5 x6 x7 x8 h' g' d' := by
  obtain rfl := Fin.ext eh
  obtain rfl := Fin.ext eg
  obtain rfl := Fin.ext ed
  rfl

/-- `keyOut` at equal indices. -/
theorem keyOut_congr {h h' : Fin 4} {r r' : Fin 512} {d d' : Fin 128} (eh : h.val = h'.val) (er : r.val = r'.val) (ed : d.val = d'.val) :
    keyOut x3 x6 x7 h r d = keyOut x3 x6 x7 h' r' d' := by
  obtain rfl := Fin.ext eh
  obtain rfl := Fin.ext er
  obtain rfl := Fin.ext ed
  rfl

/-- `valueOut` at equal indices. -/
theorem valueOut_congr {h h' : Fin 4} {r r' : Fin 512} {d d' : Fin 128} (eh : h.val = h'.val) (er : r.val = r'.val) (ed : d.val = d'.val) :
    valueOut x4 x8 h r d = valueOut x4 x8 h' r' d' := by
  obtain rfl := Fin.ext eh
  obtain rfl := Fin.ext er
  obtain rfl := Fin.ext ed
  rfl

set_option maxHeartbeats 2000000 in
/-- The first output block: head `l / 512`, query `l / 128 % 4`, lane `l % 128`. -/
theorem out9_apply (y : S1x1x2048.Idx) : out0_9 x0 x1 x2 x3 x4 x5 x6 x7 x8 y =
    headOut x0 x1 x2 x3 x4 x5 x6 x7 x8 ⟨(y 2).val / 512, by have : (y 2).val < 2048 := (y 2).isLt; omega⟩
      ⟨(y 2).val / 128 % 4, by omega⟩ ⟨(y 2).val % 128, by omega⟩ := by
  unfold out0_9
  refine View.canon_apply_of_pieces (Val := Elt Ideal) (e := .f32) (fun y : S1x1x2048.Idx =>
    headOut x0 x1 x2 x3 x4 x5 x6 x7 x8 ⟨(y 2).val / 512, by have : (y 2).val < 2048 := (y 2).isLt; omega⟩
      ⟨(y 2).val / 128 % 4, by omega⟩ ⟨(y 2).val % 128, by omega⟩) _ ?_ y (cover0_9 ..)
  intro p hp
  simp only [List.mem_cons, List.not_mem_nil, or_false] at hp
  have pt : ∀ x : S1x1x128.Idx, ∃ d : Fin 128, x = ix3 0 0 d := fun x => ⟨x 2, by
    funext a
    match a with
    | ⟨0, _⟩ => exact Subsingleton.elim (α := Fin 1) _ _
    | ⟨1, _⟩ => exact Subsingleton.elim (α := Fin 1) _ _
    | ⟨2, _⟩ => rfl⟩
  rcases hp with rfl | rfl | rfl | rfl | rfl | rfl | rfl | rfl | rfl | rfl | rfl | rfl | rfl | rfl | rfl | rfl
  · intro x
    obtain ⟨d, rfl⟩ := pt x
    refine (piece15 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece14 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece13 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece12 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece11 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece10 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece9 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece8 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece7 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece6 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece5 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece4 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece3 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece2 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece1 x0 x1 x2 x3 x4 x5 x6 x7 x8 d).trans (headOut_congr _ _ _ _ _ _ _ _ _ ?_ ?_ ?_)
    all_goals
      simp only [Rect.emb_apply]
      simp
      try omega
  · intro x
    obtain ⟨d, rfl⟩ := pt x
    refine (piece0 x0 x1 x2 x3 x4 x5 x6 x7 x8 d).trans (headOut_congr _ _ _ _ _ _ _ _ _ ?_ ?_ ?_)
    all_goals
      simp only [Rect.emb_apply]
      simp
      try omega

set_option maxHeartbeats 2000000 in
/-- The block of the key window: head `l / 128`, lane `l % 128`. -/
theorem out10_apply (y : S1x512x512.Idx) : out0_10 x0 x1 x2 x3 x4 x5 x6 x7 x8 y =
    keyOut x3 x6 x7 ⟨(y 2).val / 128, by have : (y 2).val < 512 := (y 2).isLt; omega⟩ (y 1) ⟨(y 2).val % 128, by omega⟩ := by
  unfold out0_10
  refine View.canon_apply_of_pieces (Val := Elt Ideal) (e := .f32) (fun y : S1x512x512.Idx =>
    keyOut x3 x6 x7 ⟨(y 2).val / 128, by have : (y 2).val < 512 := (y 2).isLt; omega⟩ (y 1) ⟨(y 2).val % 128, by omega⟩) _ ?_ y (cover0_10 ..)
  intro p hp
  simp only [List.mem_cons, List.not_mem_nil, or_false] at hp
  have pt : ∀ x : S1x512x128.Idx, ∃ (r : Fin 512) (d : Fin 128), x = ix3 0 r d := fun x => ⟨x 1, x 2, by
    funext a
    match a with
    | ⟨0, _⟩ => exact Subsingleton.elim (α := Fin 1) _ _
    | ⟨1, _⟩ => rfl
    | ⟨2, _⟩ => rfl⟩
  rcases hp with rfl | rfl | rfl | rfl
  · intro x
    obtain ⟨r, d, rfl⟩ := pt x
    refine (keyPiece3 x0 x1 x2 x3 x4 x5 x6 x7 x8 r d).trans (keyOut_congr _ _ _ ?_ ?_ ?_)
    all_goals
      simp only [Rect.emb_apply]
      simp
      try omega
  · intro x
    obtain ⟨r, d, rfl⟩ := pt x
    refine (keyPiece2 x3 x6 x7 r d).trans (keyOut_congr _ _ _ ?_ ?_ ?_)
    all_goals
      simp only [Rect.emb_apply]
      simp
      try omega
  · intro x
    obtain ⟨r, d, rfl⟩ := pt x
    refine (keyPiece1 x3 x6 x7 r d).trans (keyOut_congr _ _ _ ?_ ?_ ?_)
    all_goals
      simp only [Rect.emb_apply]
      simp
      try omega
  · intro x
    obtain ⟨r, d, rfl⟩ := pt x
    refine (keyPiece0 x0 x1 x2 x3 x4 x5 x6 x7 x8 r d).trans (keyOut_congr _ _ _ ?_ ?_ ?_)
    all_goals
      simp only [Rect.emb_apply]
      simp
      try omega

set_option maxHeartbeats 2000000 in
/-- The block of the value window: head `l / 128`, lane `l % 128`. -/
theorem out11_apply (y : S1x512x512.Idx) : out0_11 x0 x1 x2 x3 x4 x5 x6 x7 x8 y =
    valueOut x4 x8 ⟨(y 2).val / 128, by have : (y 2).val < 512 := (y 2).isLt; omega⟩ (y 1) ⟨(y 2).val % 128, by omega⟩ := by
  unfold out0_11
  refine View.canon_apply_of_pieces (Val := Elt Ideal) (e := .f32) (fun y : S1x512x512.Idx =>
    valueOut x4 x8 ⟨(y 2).val / 128, by have : (y 2).val < 512 := (y 2).isLt; omega⟩ (y 1) ⟨(y 2).val % 128, by omega⟩) _ ?_ y (cover0_11 ..)
  intro p hp
  simp only [List.mem_cons, List.not_mem_nil, or_false] at hp
  have pt : ∀ x : S1x512x128.Idx, ∃ (r : Fin 512) (d : Fin 128), x = ix3 0 r d := fun x => ⟨x 1, x 2, by
    funext a
    match a with
    | ⟨0, _⟩ => exact Subsingleton.elim (α := Fin 1) _ _
    | ⟨1, _⟩ => rfl
    | ⟨2, _⟩ => rfl⟩
  rcases hp with rfl | rfl | rfl | rfl
  · intro x
    obtain ⟨r, d, rfl⟩ := pt x
    refine (valuePiece3 x4 x8 r d).trans (valueOut_congr _ _ ?_ ?_ ?_)
    all_goals
      simp only [Rect.emb_apply]
      simp
      try omega
  · intro x
    obtain ⟨r, d, rfl⟩ := pt x
    refine (valuePiece2 x0 x1 x2 x3 x4 x5 x6 x7 x8 r d).trans (valueOut_congr _ _ ?_ ?_ ?_)
    all_goals
      simp only [Rect.emb_apply]
      simp
      try omega
  · intro x
    obtain ⟨r, d, rfl⟩ := pt x
    refine (valuePiece1 x0 x1 x2 x3 x4 x5 x6 x7 x8 r d).trans (valueOut_congr _ _ ?_ ?_ ?_)
    all_goals
      simp only [Rect.emb_apply]
      simp
      try omega
  · intro x
    obtain ⟨r, d, rfl⟩ := pt x
    refine (valuePiece0 x0 x1 x2 x3 x4 x5 x6 x7 x8 r d).trans (valueOut_congr _ _ ?_ ?_ ?_)
    all_goals
      simp only [Rect.emb_apply]
      simp
      try omega

end Cert.Window
-- ==== Proof.WindowHost.lean ====
module

public import proofs.«01_k».proof.Proof.Gen.KernelIdeal.Value
public import Idealize.ShloMosaic.Lib.Pointwise
public import Idealize.ShloMosaic.Lib.KernelVsHost

/-!
The arrays the window-attention kernel's steps read, as functions of the program's arguments: the queries
scaled and padded from four to eight rows a head, the two other attention outputs padded likewise, the
projections' columns, the gates re-ordered and padded to 128 entries, and the two caches with their heads
side by side.
-/

@[expose] public section

set_option maxRecDepth 16384

noncomputable section

namespace Cert.Window

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The seven arguments on core `c`, as functions of their indices. -/
abbrev argQ (c : Dev nD) : Vec Ideal S8x1x4x4x128 .f32 := m ((c : Thread nD τ).loc main_arg0)
abbrev argC (c : Dev nD) : Vec Ideal S8x1x4x4x128 .f32 := m ((c : Thread nD τ).loc main_arg1)
abbrev argS (c : Dev nD) : Vec Ideal S8x1x4x4x128 .f32 := m ((c : Thread nD τ).loc main_arg2)
abbrev argP (c : Dev nD) : Vec Ideal S8x1x5168 .f32 := m ((c : Thread nD τ).loc main_arg3)
abbrev argN (c : Dev nD) : Vec Ideal S3x128 .f32 := m ((c : Thread nD τ).loc main_arg4)
abbrev argK (c : Dev nD) : Vec Ideal S8x2x512x4x128 .f32 := m ((c : Thread nD τ).loc main_arg5)
abbrev argV (c : Dev nD) : Vec Ideal S8x2x512x4x128 .f32 := m ((c : Thread nD τ).loc main_arg6)

/-- An array of four rows a head padded with zeros to eight. -/
abbrev padded (x : FVec Ideal S8x4x4x128 .f32) : FVec Ideal S8x4x8x128 .f32 :=
  pad S8x4x8x128 ![0, 0, 0, 0] ![0, 0, 4, 0] ![0, 0, 0, 0] x (sitofp .f32 (constantI S_ 32 0#32))
    pads_S8x4x4x128_S8x4x8x128_000_000_040_000 h_S_

/-- The first four rows of a padded array are the array's. -/
theorem padded_apply (x : FVec Ideal S8x4x4x128 .f32) (n : Fin 8) (h g : Fin 4) (d : Fin 128) :
    padded x (ix4 n h ⟨g.val, by omega⟩ d) = x (ix4 n h g d) :=
  pad_apply_of_inside _ _ _ _ _ _ _ _ (ix4 n h g d) fun a => by
    match a with
    | ⟨0, _⟩ => show n.val = 0 + n.val * 1; omega
    | ⟨1, _⟩ => show h.val = 0 + h.val * 1; omega
    | ⟨2, _⟩ => show g.val = 0 + g.val * 1; omega
    | ⟨3, _⟩ => show d.val = 0 + d.val * 1; omega

/-- The scaled queries as the region finds them. -/
theorem V_q (c : Dev nD) : @Eq (FVec Ideal S8x4x8x128 .f32) (V m c main_v8)
    (padded (shapeCast S8x4x4x128 (mulf (argQ m c)
      (broadcastInDim S8x1x4x4x128 ![] bcast_S_S8x1x4x4x128 (constant S_ .f32 0x3DB504F3#32))) shapeCasts_S8x1x4x4x128_S8x4x4x128)) := by
  show StableHlo.after (List.flatten [hostOps0, hostOps0_1, hostOps0_2, hostOps0_3, hostOps0_4, hostOps0_5, hostOps0_6, hostOps0_7, hostOps0_8]) _ (Proc.devRef .tc main_v8) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The first of the other attention outputs as the region finds it. -/
theorem V_c (c : Dev nD) : @Eq (FVec Ideal S8x4x8x128 .f32) (V m c main_v10)
    (padded (shapeCast S8x4x4x128 (argC m c) shapeCasts_S8x1x4x4x128_S8x4x4x128)) := by
  show StableHlo.after (List.flatten [hostOps0, hostOps0_1, hostOps0_2, hostOps0_3, hostOps0_4, hostOps0_5, hostOps0_6, hostOps0_7, hostOps0_8]) _ (Proc.devRef .tc main_v10) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The second of the other attention outputs as the region finds it. -/
theorem V_s (c : Dev nD) : @Eq (FVec Ideal S8x4x8x128 .f32) (V m c main_v12)
    (padded (shapeCast S8x4x4x128 (argS m c) shapeCasts_S8x1x4x4x128_S8x4x4x128)) := by
  show StableHlo.after (List.flatten [hostOps0, hostOps0_1, hostOps0_2, hostOps0_3, hostOps0_4, hostOps0_5, hostOps0_6, hostOps0_7, hostOps0_8]) _ (Proc.devRef .tc main_v12) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The projections' first 5120 columns as the region finds them. -/
theorem V_p (c : Dev nD) : @Eq (FVec Ideal S8x1x5120 .f32) (V m c main_v17)
    (shapeCast S8x1x5120 (extractStridedSlice S8x5120 ![0, 0]
      (shapeCast S8x5168 (argP m c) shapeCasts_S8x1x5168_S8x5168) slices_S8x5168_S8x5120_0_0) shapeCasts_S8x5120_S8x1x5120) := by
  show StableHlo.after (List.flatten [hostOps0, hostOps0_1, hostOps0_2, hostOps0_3, hostOps0_4, hostOps0_5, hostOps0_6, hostOps0_7, hostOps0_8]) _ (Proc.devRef .tc main_v17) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The gates before padding: gate, then head, then query. -/
abbrev gates (x : Vec Ideal S8x1x5168 .f32) : FVec Ideal S8x48 .f32 :=
  shapeCast S8x48 (transpose S8x3x4x4 [0, 3, 1, 2] (shapeCast S8x4x4x3 (extractStridedSlice S8x48 ![0, 5120]
    (shapeCast S8x5168 x shapeCasts_S8x1x5168_S8x5168) slices_S8x5168_S8x48_0_5120) shapeCasts_S8x48_S8x4x4x3)
    transposes_S8x4x4x3_S8x3x4x4_0_3_1_2) shapeCasts_S8x3x4x4_S8x48

/-- The gates as the region finds them. -/
theorem V_g (c : Dev nD) : @Eq (FVec Ideal S8x1x128 .f32) (V m c main_v18)
    (shapeCast S8x1x128 (pad S8x128 ![0, 0] ![0, 80] ![0, 0] (gates (argP m c)) (sitofp .f32 (constantI S_ 32 0#32))
      pads_S8x48_S8x128_000_0800 h_S_) shapeCasts_S8x128_S8x1x128) := by
  show StableHlo.after (List.flatten [hostOps0, hostOps0_1, hostOps0_2, hostOps0_3, hostOps0_4, hostOps0_5, hostOps0_6, hostOps0_7, hostOps0_8]) _ (Proc.devRef .tc main_v18) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The cached keys as the region finds them. -/
theorem V_k (c : Dev nD) : @Eq (FVec Ideal S8x2x512x512 .f32) (V m c main_v15)
    (shapeCast S8x2x512x512 (argK m c) shapeCasts_S8x2x512x4x128_S8x2x512x512) := by
  show StableHlo.after (List.flatten [hostOps0, hostOps0_1, hostOps0_2, hostOps0_3, hostOps0_4, hostOps0_5, hostOps0_6, hostOps0_7, hostOps0_8]) _ (Proc.devRef .tc main_v15) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The cached values as the region finds them. -/
theorem V_v (c : Dev nD) : @Eq (FVec Ideal S8x2x512x512 .f32) (V m c main_v16)
    (shapeCast S8x2x512x512 (argV m c) shapeCasts_S8x2x512x4x128_S8x2x512x512) := by
  show StableHlo.after (List.flatten [hostOps0, hostOps0_1, hostOps0_2, hostOps0_3, hostOps0_4, hostOps0_5, hostOps0_6, hostOps0_7, hostOps0_8]) _ (Proc.devRef .tc main_v16) = _
  simp only [hostOps0, hostOps0_1, hostOps0_2, hostOps0_3, hostOps0_4, hostOps0_5, hostOps0_6, hostOps0_7, hostOps0_8, List.flatten_cons, List.flatten_nil, List.append_nil, List.cons_append, List.nil_append]
  after_results; rfl

/-- The gains as the region finds them. -/
theorem V_n (c : Dev nD) : @Eq (FVec Ideal S3x128 .f32) (V m c main_arg4) (argN m c) := by
  rw [V_main_arg4 m c]

set_option maxHeartbeats 2000000 in
/-- A scaled query. -/
theorem V_q_apply (c : Dev nD) (n : Fin 8) (h g : Fin 4) (d : Fin 128) :
    (V m c main_v8 : Vec Ideal S8x4x8x128 .f32) (ix4 n h ⟨g.val, by omega⟩ d)
      = argQ m c (ix5 n 0 h g d) * Ideal.ofBits FTy.f32 0x3DB504F3#32 := by
  rw [V_q, padded_apply]
  pointwise []

set_option maxHeartbeats 2000000 in
/-- An entry of the first of the other attention outputs. -/
theorem V_c_apply (c : Dev nD) (n : Fin 8) (h g : Fin 4) (d : Fin 128) :
    (V m c main_v10 : Vec Ideal S8x4x8x128 .f32) (ix4 n h ⟨g.val, by omega⟩ d) = argC m c (ix5 n 0 h g d) := by
  rw [V_c, padded_apply]
  pointwise []

set_option maxHeartbeats 2000000 in
/-- An entry of the second of the other attention outputs. -/
theorem V_s_apply (c : Dev nD) (n : Fin 8) (h g : Fin 4) (d : Fin 128) :
    (V m c main_v12 : Vec Ideal S8x4x8x128 .f32) (ix4 n h ⟨g.val, by omega⟩ d) = argS m c (ix5 n 0 h g d) := by
  rw [V_s, padded_apply]
  pointwise []

set_option maxHeartbeats 2000000 in
/-- A column of the projections. -/
theorem V_p_apply (c : Dev nD) (n : Fin 8) (l : Fin 5120) :
    (V m c main_v17 : Vec Ideal S8x1x5120 .f32) (ix3 n 0 l) = argP m c (ix3 n 0 ⟨l.val, by omega⟩) := by
  rw [V_p]
  pointwise []

set_option maxHeartbeats 2000000 in
/-- Gate `i` of head `h` and query `g`, in both orders. -/
theorem gates_apply (x : Vec Ideal S8x1x5168 .f32) (n : Fin 8) (h g : Fin 4) (i : Fin 3) :
    gates x (ix2 n ⟨i.val * 16 + h.val * 4 + g.val, by omega⟩) = x (ix3 n 0 ⟨5120 + (h.val * 12 + g.val * 3 + i.val), by omega⟩) := by
  pointwise []

set_option maxHeartbeats 2000000 in
/-- A gate, before its sigmoid. -/
theorem V_g_apply (c : Dev nD) (n : Fin 8) (h g : Fin 4) (i : Fin 3) :
    (V m c main_v18 : Vec Ideal S8x1x128 .f32) (ix3 n 0 ⟨i.val * 16 + h.val * 4 + g.val, by omega⟩)
      = argP m c (ix3 n 0 ⟨5120 + (h.val * 12 + g.val * 3 + i.val), by omega⟩) := by
  rw [V_g, ← gates_apply (argP m c)]
  pointwise []
  exact dif_pos (by omega)

set_option maxHeartbeats 2000000 in
/-- A cached key. -/
theorem V_k_apply (c : Dev nD) (n : Fin 8) (j : Fin 512) (h : Fin 4) (d : Fin 128) :
    (V m c main_v15 : Vec Ideal S8x2x512x512 .f32) (ix4 n 0 j ⟨h.val * 128 + d.val, by omega⟩) = argK m c (ix5 n 0 j h d) := by
  rw [V_k]
  pointwise []

set_option maxHeartbeats 2000000 in
/-- A cached value. -/
theorem V_v_apply (c : Dev nD) (n : Fin 8) (j : Fin 512) (h : Fin 4) (d : Fin 128) :
    (V m c main_v16 : Vec Ideal S8x2x512x512 .f32) (ix4 n 0 j ⟨h.val * 128 + d.val, by omega⟩) = argV m c (ix5 n 0 j h d) := by
  rw [V_v]
  pointwise []

end Cert.Window
-- ==== Proof.WindowRef.lean ====
/-
  The reference's window attention read element by element: the gated sum of the two given branches and of a softmax
  over the 512 cached keys and the new one, and the cached keys and values with the new ones behind them.
-/
module

public import proofs.«01_k».proof.Proof.WindowMath
public import proofs.«01_k».proof.Proof.Gen.ReferenceIdeal.Read
public import Idealize.ShloMosaic.Lib.Pointwise
public import Idealize.ShloMosaic.Lib.Pipeline.Value

@[expose] public section

set_option maxRecDepth 16384

noncomputable section

namespace Cert.Window

open Cert.ReferenceIdeal Cert.ReferenceIdeal.Gen Cert.ReferenceIdeal.Read Idealize.ShloMosaic

/-- The new key of sample `n` and head `h`: the normalised columns of the projection. -/
def newKey (x3 : Vec Ideal S8x1x5168 .f32) (x4 : Vec Ideal S3x128 .f32) (n : Fin 8) (h : Fin 4) (d : Fin 128) : EReal :=
  rmsNorm (fun j => x3 (ix3 n 0 ⟨4096 + (h.val * 128 + j.val), by omega⟩)) (fun j => x4 (ix2 2 j)) d

/-- The new value of sample `n` and head `h`. -/
def newVal (x3 : Vec Ideal S8x1x5168 .f32) (n : Fin 8) (h : Fin 4) (d : Fin 128) : EReal :=
  x3 (ix3 n 0 ⟨4608 + (h.val * 128 + d.val), by omega⟩)

/-- Gate `i` of sample `n`, head `h` and query `g`. -/
def gateAt (x3 : Vec Ideal S8x1x5168 .f32) (n : Fin 8) (h g : Fin 4) (i : Fin 3) : EReal :=
  gate (x3 (ix3 n 0 ⟨5120 + (h.val * 12 + g.val * 3 + i.val), by omega⟩))

variable (x0 x1 x2 : Vec Ideal S8x1x4x4x128 .f32) (x3 : Vec Ideal S8x1x5168 .f32) (x4 : Vec Ideal S3x128 .f32) (x5 x6 : Vec Ideal S8x2x512x4x128 .f32)

set_option maxHeartbeats 2000000 in
/-- The reference's new key. -/
theorem ref_newKey (n : Fin 8) (h : Fin 4) (d : Fin 128) : val_main_v24 (F := Ideal) x3 x4 (ix4 n 0 h d) = newKey x3 x4 n h d := by
  pointwise [val_main_v24, val_main_v21, val_main_v9, val_main_v5, val_main_v20, val_main_v19, val_main_v18, val_main_v16, val_main_v14, val_main_v13, val_main_v12, val_main_cst, val_main_v15, val_main_cst_0, val_main_v17, val_main_cst_1, val_main_v23, val_main_v22, val_main_v11, val_main_v10]
  rfl

set_option maxHeartbeats 2000000 in
/-- The reference's new value. -/
theorem ref_newVal (n : Fin 8) (h : Fin 4) (d : Fin 128) : val_main_v8 (F := Ideal) x3 (ix4 n 0 h d) = newVal x3 n h d := by
  pointwise [val_main_v8, val_main_v6, newVal]

set_option maxHeartbeats 2000000 in
/-- The reference's gates. -/
theorem ref_gate (n : Fin 8) (h g : Fin 4) (i : Fin 3) : val_main_v31 (F := Ideal) x3 (ix5 n 0 h g i) = gateAt x3 n h g i := by
  pointwise [val_main_v31, val_main_v30, val_main_v29, val_main_cst_3, val_main_v28, val_main_v27, val_main_cst_2, val_main_v26, val_main_v25, val_main_v7]
  rfl

/-- The first 512 keys are the cached ones. -/
theorem keys_cached (n : Fin 8) (j : Fin 512) (h : Fin 4) (d : Fin 128) :
    val_main_v36 (F := Ideal) x3 x4 x5 (ix4 n j.castSucc h d) = x5 (ix5 n 0 j h d) := by
  have e : val_main_v36 (F := Ideal) x3 x4 x5 (ix4 n j.castSucc h d) = val_main_v33 (F := Ideal) x5 (ix4 n j h d) := by
    unfold val_main_v36
    exact concatenate_pair_apply_left (t := S8x513x4x128) (s₁ := S8x512x4x128) (s₂ := S8x1x4x128) (1 : Fin S8x513x4x128.rank) _ _ _ (ix4 n j.castSucc h d) rfl (ix4 n j h d)
      (fun b => match b with | ⟨0, _⟩ => rfl | ⟨1, _⟩ => rfl | ⟨2, _⟩ => rfl | ⟨3, _⟩ => rfl)
  rw [e]
  pointwise [val_main_v33, val_main_v32]

/-- The last one is the new one. -/
theorem keys_new (n : Fin 8) (h : Fin 4) (d : Fin 128) :
    val_main_v36 (F := Ideal) x3 x4 x5 (ix4 n (Fin.last 512) h d) = newKey x3 x4 n h d := by
  rw [← ref_newKey x3 x4]
  unfold val_main_v36
  exact concatenate_pair_apply_right (t := S8x513x4x128) (s₁ := S8x512x4x128) (s₂ := S8x1x4x128) (1 : Fin S8x513x4x128.rank) _ _ _ (ix4 n (Fin.last 512) h d) rfl rfl (ix4 n 0 h d)
    (fun b hb => match b, hb with | ⟨0, _⟩, _ => rfl | ⟨2, _⟩, _ => rfl | ⟨3, _⟩, _ => rfl | ⟨1, _⟩, hb => absurd rfl hb)
    (by show 0 + 512 = 512; rfl)

/-- The first 512 values are the cached ones. -/
theorem vals_cached (n : Fin 8) (j : Fin 512) (h : Fin 4) (d : Fin 128) :
    val_main_v37 (F := Ideal) x3 x6 (ix4 n j.castSucc h d) = x6 (ix5 n 0 j h d) := by
  have e : val_main_v37 (F := Ideal) x3 x6 (ix4 n j.castSucc h d) = val_main_v35 (F := Ideal) x6 (ix4 n j h d) := by
    unfold val_main_v37
    exact concatenate_pair_apply_left (t := S8x513x4x128) (s₁ := S8x512x4x128) (s₂ := S8x1x4x128) (1 : Fin S8x513x4x128.rank) _ _ _ (ix4 n j.castSucc h d) rfl (ix4 n j h d)
      (fun b => match b with | ⟨0, _⟩ => rfl | ⟨1, _⟩ => rfl | ⟨2, _⟩ => rfl | ⟨3, _⟩ => rfl)
  rw [e]
  pointwise [val_main_v35, val_main_v34]

/-- The last one is the new one. -/
theorem vals_new (n : Fin 8) (h : Fin 4) (d : Fin 128) :
    val_main_v37 (F := Ideal) x3 x6 (ix4 n (Fin.last 512) h d) = newVal x3 n h d := by
  rw [← ref_newVal x3]
  unfold val_main_v37
  exact concatenate_pair_apply_right (t := S8x513x4x128) (s₁ := S8x512x4x128) (s₂ := S8x1x4x128) (1 : Fin S8x513x4x128.rank) _ _ _ (ix4 n (Fin.last 512) h d) rfl rfl (ix4 n 0 h d)
    (fun b hb => match b, hb with | ⟨0, _⟩, _ => rfl | ⟨2, _⟩, _ => rfl | ⟨3, _⟩, _ => rfl | ⟨1, _⟩, hb => absurd rfl hb)
    (by show 0 + 512 = 512; rfl)

/-- The reference's mask holds at every key: the new query is at most 512 positions after each. -/
theorem mask_true : ∀ k : Fin 513, IntOp.andi (IntOp.cmpi CmpIPredicate.sge (IntOp.subi (IntOp.addi 512#32 0#32) (BitVec.ofNat 32 k.val)) 0#32)
    (IntOp.cmpi CmpIPredicate.sle (IntOp.subi (IntOp.addi 512#32 0#32) (BitVec.ofNat 32 k.val)) 512#32) = 1#1 := by
  decide +kernel

/-- The score of key `k`: the product with the query, scaled. -/
def scoreAt (n : Fin 8) (h g : Fin 4) (k : Fin 513) : EReal :=
  (∑ d, val_main_v36 (F := Ideal) x3 x4 x5 (ix4 n k h d) * x0 (ix5 n 0 h g d)) * Ideal.ofBits FTy.f32 0x3DB504F3#32

set_option maxHeartbeats 2000000 in
/-- The reference's masked scores. -/
theorem ref_score (n : Fin 8) (h g : Fin 4) (k : Fin 513) : val_main_v55 (F := Ideal) x0 x3 x4 x5 (ix5 n h g 0 k) = scoreAt x0 x3 x4 x5 n h g k := by
  pointwise [val_main_v55, val_main_call0_v1, val_main_v50, val_main_v47, val_main_v45, val_main_v44, val_main_v41, val_main_v40, val_main_v39, val_main_c, val_main_v38, val_main_v43, val_main_v42, val_main_v46, val_main_c_4, val_main_v49, val_main_v48, val_main_c_5, val_main_v54, val_main_v52, val_main_v51, val_main_v53, val_main_cst_6, val_main_call0_v2, val_main_call0_v0, val_main_cst_7]
  rw [mask_true k]
  rfl

set_option maxHeartbeats 2000000 in
/-- The reference's greatest score. -/
theorem ref_top (n : Fin 8) (h g : Fin 4) : val_main_v58 (F := Ideal) x0 x3 x4 x5 (ix4 n h g 0) = top (scoreAt x0 x3 x4 x5 n h g) := by
  pointwise [val_main_v58, val_main_v57, val_main_cst_9, val_main_v56, val_main_cst_8]
  simp only [ref_score]
  rfl

set_option maxHeartbeats 2000000 in
/-- The reference's attention output. -/
theorem ref_attention (n : Fin 8) (h g : Fin 4) (d : Fin 128) : val_main_v67 (F := Ideal) x0 x3 x4 x5 x6 (ix5 n h d g 0) = whole (scoreAt x0 x3 x4 x5 n h g) (fun k => val_main_v37 (F := Ideal) x3 x6 (ix4 n k h d)) := by
  pointwise [val_main_v67, val_main_v66, val_main_v62, val_main_v61, val_main_v60, val_main_v59, val_main_v65, val_main_v64, val_main_v63, val_main_cst_10]
  simp only [ref_score, ref_top]
  rfl

set_option maxHeartbeats 2000000 in
/-- The first result: head `l / 512`, query `l / 128 % 4`, lane `l % 128`. -/
theorem ref_out (n : Fin 8) (l : Fin 2048) : val_main_v82 (F := Ideal) x0 x1 x2 x3 x4 x5 x6 (ix3 n 0 l) =
    gateAt x3 n ⟨l.val / 512, by omega⟩ ⟨l.val / 128 % 4, by omega⟩ 0 * x1 (ix5 n 0 ⟨l.val / 512, by omega⟩ ⟨l.val / 128 % 4, by omega⟩ ⟨l.val % 128, by omega⟩)
      + gateAt x3 n ⟨l.val / 512, by omega⟩ ⟨l.val / 128 % 4, by omega⟩ 1 * x2 (ix5 n 0 ⟨l.val / 512, by omega⟩ ⟨l.val / 128 % 4, by omega⟩ ⟨l.val % 128, by omega⟩)
      + gateAt x3 n ⟨l.val / 512, by omega⟩ ⟨l.val / 128 % 4, by omega⟩ 2 * whole (scoreAt x0 x3 x4 x5 n ⟨l.val / 512, by omega⟩ ⟨l.val / 128 % 4, by omega⟩)
          (fun k => val_main_v37 (F := Ideal) x3 x6 (ix4 n k ⟨l.val / 512, by omega⟩ ⟨l.val % 128, by omega⟩)) := by
  pointwise [val_main_v82, val_main_v81, val_main_v77, val_main_v73, val_main_v72, val_main_v71, val_main_v76, val_main_v75, val_main_v74, val_main_v80, val_main_v79, val_main_v78, val_main_v68]
  simp only [ref_gate, ref_attention]

set_option maxHeartbeats 2000000 in
/-- The second result: the keys one position on. -/
theorem ref_keys (n : Fin 8) (r l : Fin 512) : val_main_v83 (F := Ideal) x3 x4 x5 (ix3 n r l) = val_main_v36 (F := Ideal) x3 x4 x5 (ix4 n r.succ ⟨l.val / 128, by omega⟩ ⟨l.val % 128, by omega⟩) := by
  pointwise [val_main_v83, val_main_v69]
  exact congrArg (fun k => val_main_v36 (F := Ideal) x3 x4 x5 (ix4 n k ⟨l.val / 128, by omega⟩ ⟨l.val % 128, by omega⟩)) (Fin.ext (by show 1 + r.val = r.val + 1; omega))

set_option maxHeartbeats 2000000 in
/-- The third result: the values one position on. -/
theorem ref_vals (n : Fin 8) (r l : Fin 512) : val_main_v84 (F := Ideal) x3 x6 (ix3 n r l) = val_main_v37 (F := Ideal) x3 x6 (ix4 n r.succ ⟨l.val / 128, by omega⟩ ⟨l.val % 128, by omega⟩) := by
  pointwise [val_main_v84, val_main_v70]
  exact congrArg (fun k => val_main_v37 (F := Ideal) x3 x6 (ix4 n k ⟨l.val / 128, by omega⟩ ⟨l.val % 128, by omega⟩)) (Fin.ext (by show 1 + r.val = r.val + 1; omega))

end Cert.Window
-- ==== Proof.WindowSample.lean ====
module

public import proofs.«01_k».proof.Proof.WindowStep
public import proofs.«01_k».proof.Proof.WindowHost
public import proofs.«01_k».proof.Proof.WindowRef

/-!
What the window-attention kernel writes back at each sample, read against the reference.
-/

@[expose] public section

set_option maxRecDepth 16384

noncomputable section

namespace Cert.Window

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The sample of grid point `t`. -/
def sample (t : Fin cfg0.N) : Fin 8 := ⟨t.val, by have := t.isLt; have : cfg0.N = 8 := N_0; omega⟩

/-- Where window 0's block lies at point `t`. -/
theorem windowIndex0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
/-- Where window 1's block lies at point `t`. -/
theorem windowIndex1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
/-- Where window 2's block lies at point `t`. -/
theorem windowIndex2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)
/-- Where window 3's block lies at point `t`. -/
theorem windowIndex3 : ∀ t : Fin cfg0.N, win0_3.index t 0 = t.val ∧ win0_3.index t 1 = 0 ∧ win0_3.index t 2 = 8 :=
  (by decide +kernel : ∀ t : Fin grid0.N, win0_3.index t 0 = t.val ∧ win0_3.index t 1 = 0 ∧ win0_3.index t 2 = 8)
/-- Where window 4's block lies at point `t`. -/
theorem windowIndex4 : ∀ t : Fin cfg0.N, win0_4.index t 0 = t.val ∧ win0_4.index t 1 = 0 ∧ win0_4.index t 2 = 9 :=
  (by decide +kernel : ∀ t : Fin grid0.N, win0_4.index t 0 = t.val ∧ win0_4.index t 1 = 0 ∧ win0_4.index t 2 = 9)
/-- Where window 5's block lies at point `t`. -/
theorem windowIndex5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
/-- Where window 6's block lies at point `t`. -/
theorem windowIndex6 : ∀ t : Fin cfg0.N, win0_6.index t 0 = 0 ∧ win0_6.index t 1 = 0 :=
  (by decide +kernel : ∀ t : Fin grid0.N, win0_6.index t 0 = 0 ∧ win0_6.index t 1 = 0)
/-- Where window 7's block lies at point `t`. -/
theorem windowIndex7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)
/-- Where window 8's block lies at point `t`. -/
theorem windowIndex8 : ∀ t : Fin cfg0.N, win0_8.index t 0 = t.val ∧ win0_8.index t 1 = 0 ∧ win0_8.index t 2 = 0 ∧ win0_8.index t 3 = 0 :=
  (by decide +kernel : ∀ t : Fin grid0.N, win0_8.index t 0 = t.val ∧ win0_8.index t 1 = 0 ∧ win0_8.index t 2 = 0 ∧ win0_8.index t 3 = 0)
/-- Where window 9's block lies at point `t`. -/
theorem windowIndex9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)
/-- Where window 10's block lies at point `t`. -/
theorem windowIndex10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)
/-- Where window 11's block lies at point `t`. -/
theorem windowIndex11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)

/-- The queries' block. -/
theorem iblk0 (c : Dev nD) (t : Fin cfg0.N) (h : Fin 4) (g : Fin 8) (d : Fin 128) :
    (iblk m c 0 t : Vec Ideal S1x4x8x128 .f32) (ix4 0 h g d) = (V m c main_v8 : Vec Ideal S8x4x8x128 .f32) (ix4 (sample t) h g d) := by
  unfold iblk
  rw [View.read_apply]
  show V m c main_v8 _ = _
  congr 1
  funext a
  apply Fin.ext
  match a with
  | ⟨0, _⟩ => show win0_0.index t 0 * 1 + 1 * 0 = t.val; rw [(windowIndex0 t).1]; try omega
  | ⟨1, _⟩ => show win0_0.index t 1 * 4 + 1 * h.val = h.val; rw [(windowIndex0 t).2.1]; try omega
  | ⟨2, _⟩ => show win0_0.index t 2 * 8 + 1 * g.val = g.val; rw [(windowIndex0 t).2.2.1]; try omega
  | ⟨3, _⟩ => show win0_0.index t 3 * 128 + 1 * d.val = d.val; rw [(windowIndex0 t).2.2.2]; try omega

/-- The first other attention output's block. -/
theorem iblk1 (c : Dev nD) (t : Fin cfg0.N) (h : Fin 4) (g : Fin 8) (d : Fin 128) :
    (iblk m c 1 t : Vec Ideal S1x4x8x128 .f32) (ix4 0 h g d) = (V m c main_v10 : Vec Ideal S8x4x8x128 .f32) (ix4 (sample t) h g d) := by
  unfold iblk
  rw [View.read_apply]
  show V m c main_v10 _ = _
  congr 1
  funext a
  apply Fin.ext
  match a with
  | ⟨0, _⟩ => show win0_1.index t 0 * 1 + 1 * 0 = t.val; rw [(windowIndex1 t).1]; try omega
  | ⟨1, _⟩ => show win0_1.index t 1 * 4 + 1 * h.val = h.val; rw [(windowIndex1 t).2.1]; try omega
  | ⟨2, _⟩ => show win0_1.index t 2 * 8 + 1 * g.val = g.val; rw [(windowIndex1 t).2.2.1]; try omega
  | ⟨3, _⟩ => show win0_1.index t 3 * 128 + 1 * d.val = d.val; rw [(windowIndex1 t).2.2.2]; try omega

/-- The second other attention output's block. -/
theorem iblk2 (c : Dev nD) (t : Fin cfg0.N) (h : Fin 4) (g : Fin 8) (d : Fin 128) :
    (iblk m c 2 t : Vec Ideal S1x4x8x128 .f32) (ix4 0 h g d) = (V m c main_v12 : Vec Ideal S8x4x8x128 .f32) (ix4 (sample t) h g d) := by
  unfold iblk
  rw [View.read_apply]
  show V m c main_v12 _ = _
  congr 1
  funext a
  apply Fin.ext
  match a with
  | ⟨0, _⟩ => show win0_2.index t 0 * 1 + 1 * 0 = t.val; rw [(windowIndex2 t).1]; try omega
  | ⟨1, _⟩ => show win0_2.index t 1 * 4 + 1 * h.val = h.val; rw [(windowIndex2 t).2.1]; try omega
  | ⟨2, _⟩ => show win0_2.index t 2 * 8 + 1 * g.val = g.val; rw [(windowIndex2 t).2.2.1]; try omega
  | ⟨3, _⟩ => show win0_2.index t 3 * 128 + 1 * d.val = d.val; rw [(windowIndex2 t).2.2.2]; try omega

/-- The new keys' columns. -/
theorem iblk3 (c : Dev nD) (t : Fin cfg0.N) (l : Fin 512) :
    (iblk m c 3 t : Vec Ideal S1x1x512 .f32) (ix3 0 0 l) = (V m c main_v17 : Vec Ideal S8x1x5120 .f32) (ix3 (sample t) 0 ⟨4096 + l.val, by omega⟩) := by
  unfold iblk
  rw [View.read_apply]
  show V m c main_v17 _ = _
  congr 1
  funext a
  apply Fin.ext
  match a with
  | ⟨0, _⟩ => show win0_3.index t 0 * 1 + 1 * 0 = t.val; rw [(windowIndex3 t).1]; try omega
  | ⟨1, _⟩ => show win0_3.index t 1 * 1 + 1 * 0 = 0; rw [(windowIndex3 t).2.1]; try omega
  | ⟨2, _⟩ => show win0_3.index t 2 * 512 + 1 * l.val = 4096 + l.val; rw [(windowIndex3 t).2.2]; try omega

/-- The new values' columns. -/
theorem iblk4 (c : Dev nD) (t : Fin cfg0.N) (l : Fin 512) :
    (iblk m c 4 t : Vec Ideal S1x1x512 .f32) (ix3 0 0 l) = (V m c main_v17 : Vec Ideal S8x1x5120 .f32) (ix3 (sample t) 0 ⟨4608 + l.val, by omega⟩) := by
  unfold iblk
  rw [View.read_apply]
  show V m c main_v17 _ = _
  congr 1
  funext a
  apply Fin.ext
  match a with
  | ⟨0, _⟩ => show win0_4.index t 0 * 1 + 1 * 0 = t.val; rw [(windowIndex4 t).1]; try omega
  | ⟨1, _⟩ => show win0_4.index t 1 * 1 + 1 * 0 = 0; rw [(windowIndex4 t).2.1]; try omega
  | ⟨2, _⟩ => show win0_4.index t 2 * 512 + 1 * l.val = 4608 + l.val; rw [(windowIndex4 t).2.2]; try omega

/-- The gates' block. -/
theorem iblk5 (c : Dev nD) (t : Fin cfg0.N) (l : Fin 128) :
    (iblk m c 5 t : Vec Ideal S1x1x128 .f32) (ix3 0 0 l) = (V m c main_v18 : Vec Ideal S8x1x128 .f32) (ix3 (sample t) 0 l) := by
  unfold iblk
  rw [View.read_apply]
  show V m c main_v18 _ = _
  congr 1
  funext a
  apply Fin.ext
  match a with
  | ⟨0, _⟩ => show win0_5.index t 0 * 1 + 1 * 0 = t.val; rw [(windowIndex5 t).1]; try omega
  | ⟨1, _⟩ => show win0_5.index t 1 * 1 + 1 * 0 = 0; rw [(windowIndex5 t).2.1]; try omega
  | ⟨2, _⟩ => show win0_5.index t 2 * 128 + 1 * l.val = l.val; rw [(windowIndex5 t).2.2]; try omega

/-- The gains' block. -/
theorem iblk6 (c : Dev nD) (t : Fin cfg0.N) (r : Fin 3) (l : Fin 128) :
    (iblk m c 6 t : Vec Ideal S3x128 .f32) (ix2 r l) = (V m c main_arg4 : Vec Ideal S3x128 .f32) (ix2 r l) := by
  unfold iblk
  rw [View.read_apply]
  show V m c main_arg4 _ = _
  congr 1
  funext a
  apply Fin.ext
  match a with
  | ⟨0, _⟩ => show win0_6.index t 0 * 3 + 1 * r.val = r.val; rw [(windowIndex6 t).1]; try omega
  | ⟨1, _⟩ => show win0_6.index t 1 * 128 + 1 * l.val = l.val; rw [(windowIndex6 t).2]; try omega

/-- The cached keys' block. -/
theorem iblk7 (c : Dev nD) (t : Fin cfg0.N) (j l : Fin 512) :
    (iblk m c 7 t : Vec Ideal S1x1x512x512 .f32) (ix4 0 0 j l) = (V m c main_v15 : Vec Ideal S8x2x512x512 .f32) (ix4 (sample t) 0 j l) := by
  unfold iblk
  rw [View.read_apply]
  show V m c main_v15 _ = _
  congr 1
  funext a
  apply Fin.ext
  match a with
  | ⟨0, _⟩ => show win0_7.index t 0 * 1 + 1 * 0 = t.val; rw [(windowIndex7 t).1]; try omega
  | ⟨1, _⟩ => show win0_7.index t 1 * 1 + 1 * 0 = 0; rw [(windowIndex7 t).2.1]; try omega
  | ⟨2, _⟩ => show win0_7.index t 2 * 512 + 1 * j.val = j.val; rw [(windowIndex7 t).2.2.1]; try omega
  | ⟨3, _⟩ => show win0_7.index t 3 * 512 + 1 * l.val = l.val; rw [(windowIndex7 t).2.2.2]; try omega

/-- The cached values' block. -/
theorem iblk8 (c : Dev nD) (t : Fin cfg0.N) (j l : Fin 512) :
    (iblk m c 8 t : Vec Ideal S1x1x512x512 .f32) (ix4 0 0 j l) = (V m c main_v16 : Vec Ideal S8x2x512x512 .f32) (ix4 (sample t) 0 j l) := by
  unfold iblk
  rw [View.read_apply]
  show V m c main_v16 _ = _
  congr 1
  funext a
  apply Fin.ext
  match a with
  | ⟨0, _⟩ => show win0_8.index t 0 * 1 + 1 * 0 = t.val; rw [(windowIndex8 t).1]; try omega
  | ⟨1, _⟩ => show win0_8.index t 1 * 1 + 1 * 0 = 0; rw [(windowIndex8 t).2.1]; try omega
  | ⟨2, _⟩ => show win0_8.index t 2 * 512 + 1 * j.val = j.val; rw [(windowIndex8 t).2.2.1]; try omega
  | ⟨3, _⟩ => show win0_8.index t 3 * 512 + 1 * l.val = l.val; rw [(windowIndex8 t).2.2.2]; try omega

/-- The identity matrix's entries, as the kernel makes them from two counters. -/
theorem eye_apply (r x : Fin 128) :
    (FloatOps.sitofp (F := Ideal) FTy.f32 (BitVec.setWidth 32 (IntOp.cmpi .eq (BitVec.ofNat 32 r.val) (BitVec.ofNat 32 x.val))) : EReal)
      = if r = x then 1 else 0 := by
  have key : ∀ r x : Fin 128, (BitVec.setWidth 32 (IntOp.cmpi .eq (BitVec.ofNat 32 r.val) (BitVec.ofNat 32 x.val))).toInt
      = if r = x then 1 else 0 := by decide +kernel
  show (((BitVec.setWidth 32 (IntOp.cmpi .eq (BitVec.ofNat 32 r.val) (BitVec.ofNat 32 x.val))).toInt : ℝ) : EReal) = _
  rw [key]
  split <;> simp

set_option maxHeartbeats 2000000 in
/-- The column of gates holds the gates of the row. -/
theorem gateCol_eq (x : Vec Ideal S1x1x128 .f32) (r : Fin 128) : gateCol x r = gate (x (ix3 0 0 r)) := by
  have e : gateCol x r = ∑ j : Fin 128, (FloatOps.sitofp (F := Ideal) FTy.f32 (BitVec.setWidth 32 (IntOp.cmpi .eq (BitVec.ofNat 32 r.val) (BitVec.ofNat 32 j.val))) : EReal)
      * Ideal.div 1 (1 + Ideal.exp (0 - x (ix3 0 0 j))) := by
    pointwise [gateCol, k0_pay3]
  rw [e, Finset.sum_eq_single r]
  · rw [eye_apply, if_pos rfl, one_mul, zero_sub]; rfl
  · intro j _ hj
    rw [eye_apply, if_neg (fun h => hj h.symm), zero_mul]
  · intro h; exact absurd (Finset.mem_univ r) h

/-- Gate `i` of a sample, as the kernel's column has it. -/
theorem gateCol_sample (c : Dev nD) (t : Fin cfg0.N) (h g : Fin 4) (i : Fin 3) (r : Fin 128) (hr : r.val = i.val * 16 + h.val * 4 + g.val) :
    gateCol (iblk m c 5 t) r = gateAt (argP m c) (sample t) h g i := by
  rw [show r = ⟨i.val * 16 + h.val * 4 + g.val, by omega⟩ from Fin.ext hr, gateCol_eq, iblk5, V_g_apply]; rfl

/-- The normalised new key, as the kernel has it. -/
theorem newKey_sample (c : Dev nD) (t : Fin cfg0.N) (h : Fin 4) (d : Fin 128) :
    rmsNorm (fun k => (iblk m c 3 t : Vec Ideal S1x1x512 .f32) (ix3 0 0 (lane h k)))
      (fun k => (iblk m c 6 t : Vec Ideal S3x128 .f32) (ix2 2 k)) d = newKey (argP m c) (argN m c) (sample t) h d := by
  simp only [iblk3, iblk6]
  exact congrArg₂ (fun x w => rmsNorm x w d) (funext fun k => V_p_apply m c (sample t) ⟨4096 + (h.val * 128 + k.val), by omega⟩)
    (funext fun k => congrFun (V_n m c) (ix2 2 k))

/-- The new value, as the kernel has it. -/
theorem newVal_sample (c : Dev nD) (t : Fin cfg0.N) (h : Fin 4) (d : Fin 128) :
    (iblk m c 4 t : Vec Ideal S1x1x512 .f32) (ix3 0 0 (lane h d)) = newVal (argP m c) (sample t) h d := by
  rw [iblk4, V_p_apply]
  exact congrArg (fun l => argP m c (ix3 (sample t) 0 l)) (Fin.ext (by show 4608 + (h.val * 128 + d.val) = 4608 + (h.val * 128 + d.val); rfl))

/-- A cached key, as the kernel has it. -/
theorem key_sample (c : Dev nD) (t : Fin cfg0.N) (j : Fin 512) (h : Fin 4) (d : Fin 128) :
    (iblk m c 7 t : Vec Ideal S1x1x512x512 .f32) (ix4 0 0 j (lane h d)) = argK m c (ix5 (sample t) 0 j h d) := by
  rw [iblk7]; exact V_k_apply m c (sample t) j h d

/-- A cached value, as the kernel has it. -/
theorem value_sample (c : Dev nD) (t : Fin cfg0.N) (j : Fin 512) (h : Fin 4) (d : Fin 128) :
    (iblk m c 8 t : Vec Ideal S1x1x512x512 .f32) (ix4 0 0 j (lane h d)) = argV m c (ix5 (sample t) 0 j h d) := by
  rw [iblk8]; exact V_v_apply m c (sample t) j h d

/-- A scaled query, as the kernel has it. -/
theorem query_sample (c : Dev nD) (t : Fin cfg0.N) (h g : Fin 4) (d : Fin 128) :
    (iblk m c 0 t : Vec Ideal S1x4x8x128 .f32) (ix4 0 h ⟨g.val, by omega⟩ d)
      = argQ m c (ix5 (sample t) 0 h g d) * Ideal.ofBits FTy.f32 0x3DB504F3#32 := by
  rw [iblk0]; exact V_q_apply m c (sample t) h g d

/-- An entry of the first other attention output, as the kernel has it. -/
theorem other_sample (c : Dev nD) (t : Fin cfg0.N) (h g : Fin 4) (d : Fin 128) :
    (iblk m c 1 t : Vec Ideal S1x4x8x128 .f32) (ix4 0 h ⟨g.val, by omega⟩ d) = argC m c (ix5 (sample t) 0 h g d) := by
  rw [iblk1]; exact V_c_apply m c (sample t) h g d

/-- An entry of the second other attention output, as the kernel has it. -/
theorem other_sample' (c : Dev nD) (t : Fin cfg0.N) (h g : Fin 4) (d : Fin 128) :
    (iblk m c 2 t : Vec Ideal S1x4x8x128 .f32) (ix4 0 h ⟨g.val, by omega⟩ d) = argS m c (ix5 (sample t) 0 h g d) := by
  rw [iblk2]; exact V_s_apply m c (sample t) h g d

/-- The kernel's gated sum at a sample is the reference's, where the scores are real numbers. -/
theorem head_sample (c : Dev nD) (t : Fin cfg0.N) (h g : Fin 4) (d : Fin 128)
    (hs : ∀ k, Finite (scoreAt (argQ m c) (argP m c) (argN m c) (argK m c) (sample t) h g k)) :
    headOut (iblk m c 0 t) (iblk m c 1 t) (iblk m c 2 t) (iblk m c 3 t) (iblk m c 4 t) (iblk m c 5 t) (iblk m c 6 t) (iblk m c 7 t) (iblk m c 8 t) h g d
      = gateAt (argP m c) (sample t) h g 0 * argC m c (ix5 (sample t) 0 h g d)
        + gateAt (argP m c) (sample t) h g 1 * argS m c (ix5 (sample t) 0 h g d)
        + gateAt (argP m c) (sample t) h g 2 * whole (scoreAt (argQ m c) (argP m c) (argN m c) (argK m c) (sample t) h g)
            (fun k => Cert.ReferenceIdeal.Read.val_main_v37 (F := Ideal) (argP m c) (argV m c) (ix4 (sample t) k h d)) := by
  have g0 := gateCol_sample m c t h g 0 ⟨h.val * 4 + g.val, by omega⟩ (by show h.val * 4 + g.val = 0 * 16 + h.val * 4 + g.val; omega)
  have g1 := gateCol_sample m c t h g 1 ⟨16 + h.val * 4 + g.val, by omega⟩ (by show 16 + h.val * 4 + g.val = 1 * 16 + h.val * 4 + g.val; omega)
  have g2 := gateCol_sample m c t h g 2 ⟨32 + h.val * 4 + g.val, by omega⟩ (by show 32 + h.val * 4 + g.val = 2 * 16 + h.val * 4 + g.val; omega)
  have a1 : ∀ j : Fin 512, ∑ d, argQ m c (ix5 (sample t) 0 h g d) * Ideal.ofBits FTy.f32 0x3DB504F3#32 * argK m c (ix5 (sample t) 0 j h d)
      = scoreAt (argQ m c) (argP m c) (argN m c) (argK m c) (sample t) h g j.castSucc := fun j => by
    rw [score_scale (fun d => argQ m c (ix5 (sample t) 0 h g d)) (fun d => argK m c (ix5 (sample t) 0 j h d))]
    unfold scoreAt
    simp only [keys_cached]
  have a2 : ∑ d, argQ m c (ix5 (sample t) 0 h g d) * Ideal.ofBits FTy.f32 0x3DB504F3#32 * newKey (argP m c) (argN m c) (sample t) h d
      = scoreAt (argQ m c) (argP m c) (argN m c) (argK m c) (sample t) h g (Fin.last 512) := by
    rw [score_scale (fun d => argQ m c (ix5 (sample t) 0 h g d)) (fun d => newKey (argP m c) (argN m c) (sample t) h d)]
    unfold scoreAt
    simp only [keys_new]
  unfold headOut mixed
  rw [g0, g1, g2, other_sample, other_sample', newVal_sample, ← split_eq_whole hs]
  simp only [query_sample, key_sample, newKey_sample, a1, a2, value_sample, vals_cached, vals_new]

/-- The row a window's row takes its entry from: the next row, and for the last row the new one. -/
theorem row_split (r : Fin 512) : (r.val = 511 ∧ r.succ = Fin.last 512) ∨
    (∃ j : Fin 512, r.succ = j.castSucc ∧ (⟨(r.val + 512 - 511) % 512, by omega⟩ : Fin 512) = j ∧ r.val ≠ 511) := by
  by_cases h : r.val = 511
  · exact Or.inl ⟨h, Fin.ext (by show r.val + 1 = 512; omega)⟩
  · refine Or.inr ⟨⟨r.val + 1, by omega⟩, Fin.ext rfl, Fin.ext ?_, h⟩
    show (r.val + 512 - 511) % 512 = r.val + 1
    omega

/-- Whether a row is the last, as the kernel compares. -/
theorem last_row : ∀ r : Fin 512, IntOp.cmpi .eq (BitVec.ofNat 32 r.val) 511#32 = if r.val = 511 then 1#1 else 0#1 := by
  decide +kernel

/-- The kernel's new window of keys at a sample is the reference's. -/
theorem keyOut_sample (c : Dev nD) (t : Fin cfg0.N) (h : Fin 4) (r : Fin 512) (d : Fin 128) :
    keyOut (iblk m c 3 t) (iblk m c 6 t) (iblk m c 7 t) h r d
      = Cert.ReferenceIdeal.Read.val_main_v36 (F := Ideal) (argP m c) (argN m c) (argK m c) (ix4 (sample t) r.succ h d) := by
  unfold keyOut
  rw [last_row]
  rcases row_split r with ⟨h1, h2⟩ | ⟨j, h1, h2, h3⟩
  · rw [if_pos h1, h2, keys_new, newKey_sample]; rfl
  · rw [if_neg h3, h1, h2, keys_cached, key_sample]; rfl

/-- The kernel's new window of values at a sample is the reference's. -/
theorem valueOut_sample (c : Dev nD) (t : Fin cfg0.N) (h : Fin 4) (r : Fin 512) (d : Fin 128) :
    valueOut (iblk m c 4 t) (iblk m c 8 t) h r d
      = Cert.ReferenceIdeal.Read.val_main_v37 (F := Ideal) (argP m c) (argV m c) (ix4 (sample t) r.succ h d) := by
  unfold valueOut
  rw [last_row]
  rcases row_split r with ⟨h1, h2⟩ | ⟨j, h1, h2, h3⟩
  · rw [if_pos h1, h2, vals_new, newVal_sample]; rfl
  · rw [if_neg h3, h1, h2, vals_cached, value_sample]; rfl

end Cert.Window
-- ==== Proof.WindowPre.lean ====
/-
  What the precondition of the window attention says: the queries, the new key's columns, the key norm's gain and the
  cached keys are real numbers.
-/
module

public import proofs.«01_k».proof.Defs
public import proofs.«01_k».proof.Proof.WindowMath
public import Idealize.ShloMosaic.Lib.Pointwise
public import Idealize.ShloMosaic.Lib.Pipeline.Value

@[expose] public section

set_option maxRecDepth 16384

noncomputable section

namespace Cert.Window

open Cert.Pre_scores_finite Idealize.ShloMosaic

/-- An extended real whose absolute value is below plus infinity is a real number. -/
theorem finite_of_lt {x : EReal}
    (h : BitVec.ofBool (decide ((FloatOps.absf (F := Ideal) (φ := .f32) x : EReal) < Ideal.ofBits FTy.f32 0x7F800000#32)) = 1#1) : Finite x := by
  have h' : (FloatOps.absf (F := Ideal) (φ := .f32) x : EReal) < Ideal.ofBits FTy.f32 0x7F800000#32 := by
    by_contra hn
    rw [decide_eq_false hn] at h
    exact absurd h (by decide)
  rw [ofBits_inf] at h'
  induction x using EReal.rec with
  | bot => exact absurd h' (by show ¬ ((⊤ : EReal) < ⊤); exact lt_irrefl _)
  | top => exact absurd h' (by show ¬ ((⊤ : EReal) < ⊤); exact lt_irrefl _)
  | coe r => exact ⟨r, rfl⟩

variable [Facts] {x0 x1 x2 : Vec Ideal S8x1x4x4x128 .f32} {x3 : Vec Ideal S8x1x5168 .f32} {x4 : Vec Ideal S3x128 .f32} {x5 x6 : Vec Ideal S8x2x512x4x128 .f32}

set_option maxHeartbeats 2000000 in
/-- The queries are real numbers. -/
theorem finite_query (h : fn (F := Ideal) x0 x1 x2 x3 x4 x5 x6 = fun _ => 1#1) (n : Fin 8) (h' g : Fin 4) (d : Fin 128) : Finite (x0 (ix5 n 0 h' g d)) := by
  unfold fn fn_part1 at h
  dsimp only at h
  have e := congrFun h (ix1 ⟨0 + (((n.val * 4 + h'.val) * 4 + g.val) * 128 + d.val), by omega⟩)
  rw [concatenate_apply_piece (0 : Fin S2117760.rank) _ _ _ 0 (by simp) S16384 _ rfl rfl 0 rfl
    (ix1 ⟨((n.val * 4 + h'.val) * 4 + g.val) * 128 + d.val, by omega⟩) (fun b hb => absurd (by match b with | ⟨0, _⟩ => rfl) hb) rfl] at e
  pointwise [] at e
  exact finite_of_lt e

set_option maxHeartbeats 2000000 in
/-- The new key's columns are real numbers. -/
theorem finite_new (h : fn (F := Ideal) x0 x1 x2 x3 x4 x5 x6 = fun _ => 1#1) (n : Fin 8) (l : Fin 512) : Finite (x3 (ix3 n 0 ⟨4096 + l.val, by omega⟩)) := by
  unfold fn fn_part1 at h
  dsimp only at h
  have e := congrFun h (ix1 ⟨16384 + (n.val * 512 + l.val), by omega⟩)
  rw [concatenate_apply_piece (0 : Fin S2117760.rank) _ _ _ 1 (by simp) S4096 _ rfl rfl 16384 rfl
    (ix1 ⟨n.val * 512 + l.val, by omega⟩) (fun b hb => absurd (by match b with | ⟨0, _⟩ => rfl) hb) rfl] at e
  pointwise [] at e
  exact finite_of_lt e

set_option maxHeartbeats 2000000 in
/-- The key norm's gain is a real number. -/
theorem finite_gain (h : fn (F := Ideal) x0 x1 x2 x3 x4 x5 x6 = fun _ => 1#1) (d : Fin 128) : Finite (x4 (ix2 2 d)) := by
  unfold fn fn_part1 at h
  dsimp only at h
  have e := congrFun h (ix1 ⟨20480 + (d.val), by omega⟩)
  rw [concatenate_apply_piece (0 : Fin S2117760.rank) _ _ _ 2 (by simp) S128 _ rfl rfl 20480 rfl
    (ix1 ⟨d.val, by omega⟩) (fun b hb => absurd (by match b with | ⟨0, _⟩ => rfl) hb) rfl] at e
  pointwise [] at e
  exact finite_of_lt e

set_option maxHeartbeats 2000000 in
/-- The cached keys are real numbers. -/
theorem finite_cached (h : fn (F := Ideal) x0 x1 x2 x3 x4 x5 x6 = fun _ => 1#1) (n : Fin 8) (j : Fin 512) (h' : Fin 4) (d : Fin 128) : Finite (x5 (ix5 n 0 j h' d)) := by
  unfold fn fn_part1 at h
  dsimp only at h
  have e := congrFun h (ix1 ⟨20608 + (((n.val * 512 + j.val) * 4 + h'.val) * 128 + d.val), by omega⟩)
  rw [concatenate_apply_piece (0 : Fin S2117760.rank) _ _ _ 3 (by simp) S2097152 _ rfl rfl 20608 rfl
    (ix1 ⟨((n.val * 512 + j.val) * 4 + h'.val) * 128 + d.val, by omega⟩) (fun b hb => absurd (by match b with | ⟨0, _⟩ => rfl) hb) rfl] at e
  pointwise [] at e
  exact finite_of_lt e

end Cert.Window
-- ==== Proof.Window.lean ====
module

public import proofs.«01_k».proof.Defs
public import proofs.«01_k».proof.Proof.WindowSample
public import proofs.«01_k».proof.Proof.WindowPre
public import proofs.«01_k».proof.Proof.Gen.Pre_scores_finite
public import Idealize.ShloMosaic.Lib.Claim
public import Idealize.ShloMosaic.Lib.Quiescent

/-!
The window attention of one decoding step: eight samples, four key-value heads of four query heads each. The
kernel keeps the 512 cached keys and the new one apart, takes the greatest score of both and divides once at
the end; the reference lays all 513 keys in one array and divides every weight. Both return the gated sum of
three attention outputs and the two windows moved up by one row.
-/

@[expose] public section

set_option maxRecDepth 16384

noncomputable section

namespace Cert.Window

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every score is a real number, where the queries, the new keys' columns, the norm's gains and the cached
    keys are. -/
theorem score_sample (hpre : Cert.Pre_KernelIdeal_scores_finite m) (c : Dev nD) (n : Fin 8) (h g : Fin 4) (k : Fin 513) :
    Finite (scoreAt (argQ m c) (argP m c) (argN m c) (argK m c) n h g k) := by
  have hp := hpre c
  unfold scoreAt
  refine score_finite (fun d => finite_query hp n h g d) (fun d => ?_)
  refine Fin.lastCases ?_ (fun j => ?_) k
  · rw [keys_new]
    exact rmsNorm_finite (fun j => finite_new hp n ⟨h.val * 128 + j.val, by omega⟩) (fun j => finite_gain hp j) d
  · rw [keys_cached]
    exact finite_cached hp n j h d

/-- The three results both programs leave: the reference's values of the arguments. -/
abbrev result0 (c : Dev nD) : Vec Ideal S8x1x2048 .f32 :=
  Cert.ReferenceIdeal.Read.val_main_v82 (F := Ideal) (argQ m c) (argC m c) (argS m c) (argP m c) (argN m c) (argK m c) (argV m c)
abbrev result1 (c : Dev nD) : Vec Ideal S8x512x512 .f32 :=
  Cert.ReferenceIdeal.Read.val_main_v83 (F := Ideal) (argP m c) (argN m c) (argK m c)
abbrev result2 (c : Dev nD) : Vec Ideal S8x512x512 .f32 :=
  Cert.ReferenceIdeal.Read.val_main_v84 (F := Ideal) (argP m c) (argV m c)

/-- What point `t` writes back to the first result is its block of the reference's value. -/
theorem flushed9_eq (hpre : Cert.Pre_KernelIdeal_scores_finite m) (c : Dev nD) (t : Fin cfg0.N) :
    (dats m 0 c).flushed 9 t = ((cfg0.win 9).blk t).view.read (Elt Ideal) (result0 m c) := by
  rw [Value.flushed9]
  funext y
  obtain ⟨l, rfl⟩ : ∃ l : Fin 2048, y = ix3 0 0 l := ⟨y 2, by
    funext a
    match a with
    | ⟨0, _⟩ => exact Subsingleton.elim (α := Fin 1) _ _
    | ⟨1, _⟩ => exact Subsingleton.elim (α := Fin 1) _ _
    | ⟨2, _⟩ => rfl⟩
  rw [View.read_apply]
  show out0_9 _ _ _ _ _ _ _ _ _ (ix3 0 0 l) = result0 m c _
  rw [out9_apply, show ((cfg0.win 9).blk t).view.emb (ix3 0 0 l) = (ix3 (sample t) 0 l : S8x1x2048.Idx) from by
    funext a
    apply Fin.ext
    match a with
    | ⟨0, _⟩ => show win0_9.index t 0 * 1 + 1 * 0 = t.val; rw [(windowIndex9 t).1]; try omega
    | ⟨1, _⟩ => show win0_9.index t 1 * 1 + 1 * 0 = 0; rw [(windowIndex9 t).2.1]
    | ⟨2, _⟩ => show win0_9.index t 2 * 2048 + 1 * l.val = l.val; rw [(windowIndex9 t).2.2]; omega]
  refine (head_sample m c t ⟨l.val / 512, by omega⟩ ⟨l.val / 128 % 4, by omega⟩ ⟨l.val % 128, by omega⟩
    (fun k => score_sample m hpre c _ _ _ k)).trans ?_
  exact (ref_out (argQ m c) (argC m c) (argS m c) (argP m c) (argN m c) (argK m c) (argV m c) (sample t) l).symm

/-- What point `t` writes back to the window of keys is its block of the reference's value. -/
theorem flushed10_eq (c : Dev nD) (t : Fin cfg0.N) :
    (dats m 0 c).flushed 10 t = ((cfg0.win 10).blk t).view.read (Elt Ideal) (result1 m c) := by
  rw [Value.flushed10]
  funext y
  obtain ⟨r, l, rfl⟩ : ∃ (r : Fin 512) (l : Fin 512), y = ix3 0 r l := ⟨y 1, y 2, by
    funext a
    match a with
    | ⟨0, _⟩ => exact Subsingleton.elim (α := Fin 1) _ _
    | ⟨1, _⟩ => rfl
    | ⟨2, _⟩ => rfl⟩
  rw [View.read_apply]
  show out0_10 _ _ _ _ _ _ _ _ _ (ix3 0 r l) = result1 m c _
  rw [out10_apply, show ((cfg0.win 10).blk t).view.emb (ix3 0 r l) = (ix3 (sample t) r l : S8x512x512.Idx) from by
    funext a
    apply Fin.ext
    match a with
    | ⟨0, _⟩ => show win0_10.index t 0 * 1 + 1 * 0 = t.val; rw [(windowIndex10 t).1]; try omega
    | ⟨1, _⟩ => show win0_10.index t 1 * 512 + 1 * r.val = r.val; rw [(windowIndex10 t).2.1]; omega
    | ⟨2, _⟩ => show win0_10.index t 2 * 512 + 1 * l.val = l.val; rw [(windowIndex10 t).2.2]; omega]
  exact (keyOut_sample m c t ⟨l.val / 128, by omega⟩ r ⟨l.val % 128, by omega⟩).trans (ref_keys (argP m c) (argN m c) (argK m c) (sample t) r l).symm

/-- What point `t` writes back to the window of values is its block of the reference's value. -/
theorem flushed11_eq (c : Dev nD) (t : Fin cfg0.N) :
    (dats m 0 c).flushed 11 t = ((cfg0.win 11).blk t).view.read (Elt Ideal) (result2 m c) := by
  rw [Value.flushed11]
  funext y
  obtain ⟨r, l, rfl⟩ : ∃ (r : Fin 512) (l : Fin 512), y = ix3 0 r l := ⟨y 1, y 2, by
    funext a
    match a with
    | ⟨0, _⟩ => exact Subsingleton.elim (α := Fin 1) _ _
    | ⟨1, _⟩ => rfl
    | ⟨2, _⟩ => rfl⟩
  rw [View.read_apply]
  show out0_11 _ _ _ _ _ _ _ _ _ (ix3 0 r l) = result2 m c _
  rw [out11_apply, show ((cfg0.win 11).blk t).view.emb (ix3 0 r l) = (ix3 (sample t) r l : S8x512x512.Idx) from by
    funext a
    apply Fin.ext
    match a with
    | ⟨0, _⟩ => show win0_11.index t 0 * 1 + 1 * 0 = t.val; rw [(windowIndex11 t).1]; try omega
    | ⟨1, _⟩ => show win0_11.index t 1 * 512 + 1 * r.val = r.val; rw [(windowIndex11 t).2.1]; omega
    | ⟨2, _⟩ => show win0_11.index t 2 * 512 + 1 * l.val = l.val; rw [(windowIndex11 t).2.2]; omega]
  exact (valueOut_sample m c t ⟨l.val / 128, by omega⟩ r ⟨l.val % 128, by omega⟩).trans (ref_vals (argP m c) (argV m c) (sample t) r l).symm

/-- Every element of result array 0 is in some sample's block. -/
theorem cover9 (i : S8x1x2048.Idx) : ∃ t : Fin cfg0.N, (cfg0.win 9).flush t = true ∧ i ∈ ((cfg0.win 9).blk t).view.set := by
  have h0 : (i 0).val < 8 := (i 0).isLt
  have h1 : (i 1).val < 1 := (i 1).isLt
  have hN : cfg0.N = 8 := N_0
  obtain ⟨t, ht⟩ : ∃ t : Fin cfg0.N, t.val = (i 0).val := ⟨⟨(i 0).val, by omega⟩, rfl⟩
  refine ⟨t, flush0_9 t, ?_⟩
  have e : @Eq S8x1x2048.Idx (((cfg0.win 9).blk t).view.emb (ix3 0 (i 1) (i 2) : S1x1x2048.Idx)) i := by
    funext a
    apply Fin.ext
    match a with
    | ⟨0, _⟩ => show win0_9.index t 0 * 1 + 1 * 0 = (i 0).val; rw [(windowIndex9 t).1]; omega
    | ⟨1, _⟩ => show win0_9.index t 1 * 1 + 1 * (i 1).val = (i 1).val; rw [(windowIndex9 t).2.1]; omega
    | ⟨2, _⟩ => show win0_9.index t 2 * 2048 + 1 * (i 2).val = (i 2).val; rw [(windowIndex9 t).2.2]; omega
  rw [← e]
  exact View.emb_mem_set _ _

/-- Every element of result array 1 is in some sample's block. -/
theorem cover10 (i : S8x512x512.Idx) : ∃ t : Fin cfg0.N, (cfg0.win 10).flush t = true ∧ i ∈ ((cfg0.win 10).blk t).view.set := by
  have h0 : (i 0).val < 8 := (i 0).isLt
  have h1 : (i 1).val < 512 := (i 1).isLt
  have hN : cfg0.N = 8 := N_0
  obtain ⟨t, ht⟩ : ∃ t : Fin cfg0.N, t.val = (i 0).val := ⟨⟨(i 0).val, by omega⟩, rfl⟩
  refine ⟨t, flush0_10 t, ?_⟩
  have e : @Eq S8x512x512.Idx (((cfg0.win 10).blk t).view.emb (ix3 0 (i 1) (i 2) : S1x512x512.Idx)) i := by
    funext a
    apply Fin.ext
    match a with
    | ⟨0, _⟩ => show win0_10.index t 0 * 1 + 1 * 0 = (i 0).val; rw [(windowIndex10 t).1]; omega
    | ⟨1, _⟩ => show win0_10.index t 1 * 512 + 1 * (i 1).val = (i 1).val; rw [(windowIndex10 t).2.1]; omega
    | ⟨2, _⟩ => show win0_10.index t 2 * 512 + 1 * (i 2).val = (i 2).val; rw [(windowIndex10 t).2.2]; omega
  rw [← e]
  exact View.emb_mem_set _ _

/-- Every element of result array 2 is in some sample's block. -/
theorem cover11 (i : S8x512x512.Idx) : ∃ t : Fin cfg0.N, (cfg0.win 11).flush t = true ∧ i ∈ ((cfg0.win 11).blk t).view.set := by
  have h0 : (i 0).val < 8 := (i 0).isLt
  have h1 : (i 1).val < 512 := (i 1).isLt
  have hN : cfg0.N = 8 := N_0
  obtain ⟨t, ht⟩ : ∃ t : Fin cfg0.N, t.val = (i 0).val := ⟨⟨(i 0).val, by omega⟩, rfl⟩
  refine ⟨t, flush0_11 t, ?_⟩
  have e : @Eq S8x512x512.Idx (((cfg0.win 11).blk t).view.emb (ix3 0 (i 1) (i 2) : S1x512x512.Idx)) i := by
    funext a
    apply Fin.ext
    match a with
    | ⟨0, _⟩ => show win0_11.index t 0 * 1 + 1 * 0 = (i 0).val; rw [(windowIndex11 t).1]; omega
    | ⟨1, _⟩ => show win0_11.index t 1 * 512 + 1 * (i 1).val = (i 1).val; rw [(windowIndex11 t).2.1]; omega
    | ⟨2, _⟩ => show win0_11.index t 2 * 512 + 1 * (i 2).val = (i 2).val; rw [(windowIndex11 t).2.2]; omega
  rw [← e]
  exact View.emb_mem_set _ _

/-- So the three result arrays end holding the reference's values. -/
theorem final9 (hpre : Cert.Pre_KernelIdeal_scores_finite m) (c : Dev nD) : (dats m 0 c).arrAt 9 cfg0.N = result0 m c :=
  (dats m 0 c).arrAt_eq_of_cover 9 (result0 m c) (fun t _ => flushed9_eq m hpre c t) cover9
theorem final10 (c : Dev nD) : (dats m 0 c).arrAt 10 cfg0.N = result1 m c :=
  (dats m 0 c).arrAt_eq_of_cover 10 (result1 m c) (fun t _ => flushed10_eq m c t) cover10
theorem final11 (c : Dev nD) : (dats m 0 c).arrAt 11 cfg0.N = result2 m c :=
  (dats m 0 c).arrAt_eq_of_cover 11 (result2 m c) (fun t _ => flushed11_eq m c t) cover11

/-- The reference runs, keeps its arguments and leaves every semaphore at zero. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The same on the arguments the value claim is about. -/
theorem frame_ref_pre : Cert.quiescent_ReferenceIdeal_pre_scores_finite := fun m ρ _ => frame_ref m ρ trivial

set_option maxHeartbeats 2000000 in
/-- The kernel and the reference leave the same three results on the same arguments, where the scores are
    real numbers. -/
theorem algebraic : Cert.algebraic_KernelIdeal_ReferenceIdeal_pre_scores_finite := fun m g m' g' hpre hag =>
  ⟨fun c => result0 m c, fun c => result1 m c, fun c => result2 m c,
    (θ_run defs _ _).mono (fun r h c => ⟨(h c).1.trans (final9 m hpre c), (h c).2.1.trans (final10 m c), (h c).2.2.1.trans (final11 m c), (h c).2.2.2⟩)
      (Value.run_blocks m g),
    (θ_run Cert.ReferenceIdeal.defs _ _).mono (fun r h c => ⟨
      (h c).1.trans ((Cert.ReferenceIdeal.Read.val_main_v82_eq m' c).trans (by
        rw [(hag c).1, (hag c).2.1, (hag c).2.2.1, (hag c).2.2.2.1, (hag c).2.2.2.2.1, (hag c).2.2.2.2.2.1, (hag c).2.2.2.2.2.2])),
      (h c).2.1.trans ((Cert.ReferenceIdeal.Read.val_main_v83_eq _ _ _).trans (by
        rw [(hag c).2.2.2.1, (hag c).2.2.2.2.1, (hag c).2.2.2.2.2.1])),
      (h c).2.2.1.trans ((Cert.ReferenceIdeal.Read.val_main_v84_eq _ _).trans (by
        rw [(hag c).2.2.2.1, (hag c).2.2.2.2.2.2])),
      (h c).2.2.2⟩) (Cert.ReferenceIdeal.Value.run m' g')⟩

end Cert.Window
-- ==== Proof.Norm.lean ====
/-
  The root-mean-square norm of one row of 2048 numbers, as both the kernels and the references compute it over the extended reals.
-/
module

public import Idealize.ShloMosaic.Lib.Pointwise
public import Idealize.ShloMosaic.PureOps.Ideal

@[expose] public section

noncomputable section

namespace Cert.Norm

open Idealize.ShloMosaic

/-- Entry `k` of the normalised row: `x k`, times one over the root of the row's mean square plus a small constant, times the
    gain `w k`. The two words are the single-precision numbers 2048 and 1e-6. -/
def rmsNorm (x w : Fin 2048 → EReal) (k : Fin 2048) : EReal :=
  x k * Ideal.rsqrt (Ideal.div (∑ j : Fin 2048, x j * x j) (Ideal.ofBits FTy.f32 0x45000000#32) + Ideal.ofBits FTy.f32 0x358637BD#32) * w k

end Cert.Norm
-- ==== Proof.Mlp.lean ====
/-
  The feed-forward layer with its residual: `out = x + max(norm(x) · U, 0)² · D` over 8192 rows, 1024 rows and 512 of the 8192
  hidden columns a grid point. The normalised rows are computed at a row block's first point and kept in a scratch; the output
  block starts at `x` and gains one block of hidden columns at each of the sixteen points. The kernel's result array is, element
  by element, the reference's, which multiplies once.
-/
module

public import proofs.«01_k».proof.Defs
public import proofs.«01_k».proof.Proof.Norm
public import proofs.«01_k».proof.Proof.Gen.Kernel2Ideal.Value
public import proofs.«01_k».proof.Proof.Gen.Reference2Ideal.Read
public import Idealize.ShloMosaic.Lib.Pointwise
public import Idealize.ShloMosaic.Lib.Claim
public import Idealize.ShloMosaic.Lib.Quiescent

@[expose] public section

set_option maxRecDepth 16384

noncomputable section

namespace Cert.Mlp

open Cert.Kernel2Ideal Cert.Kernel2Ideal.Gen Idealize.ShloMosaic Idealize.ShloMosaic.TcCoe Idealize.SL.Sem
open Idealize.ShloMosaic.Pipeline (Dat)
open Cert.Norm (rmsNorm)

/-- Two and three zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point's body leaves -/

/-- At the first point of a row block the body leaves the normalised rows in its scratch. -/
theorem scr_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole)
    (arg5 : Memref sig .tc .vmem S1x512x2048 .bf16) (harg5 : arg5.IsWhole) (arg6 : Memref sig .tc .vmem S1024x2048 .f32) (harg6 : arg6.IsWhole) (arg7 : Memref sig .tc .vmem S1024x2048 .bf16) (harg7 : arg7.IsWhole) (hc : cond0_0 i)
    (x0 : Vec Ideal S1024x2048 .f32) (x1 : Vec Ideal S1x2048 .f32) (x2 : Vec Ideal S1x2048x512 .bf16) (x3 : Vec Ideal S1x512x2048 .bf16) :
    sout0_A_0 c i arg2 harg2 arg3 harg3 arg4 harg4 arg5 harg5 arg6 harg6 arg7 harg7 hc x0 x1 x2 x3 = k0_pay2 x0 x1 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero hz2]
  simp only [View.readAt_eq_ld, harg2.read_unread, harg3.read_unread, View.ld_unit_zero (S := S1024x2048) hz2, View.ld_unit_zero (S := S1x2048) hz2]

/-- The input block is copied unchanged. -/
theorem pay1_eq (x : Vec Ideal S1024x2048 .f32) : k0_pay1 x = x := by
  unfold k0_pay1
  exact shapeCast_self ..

/-- At that point the output block is the input block plus the first block of hidden columns. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole)
    (arg5 : Memref sig .tc .vmem S1x512x2048 .bf16) (harg5 : arg5.IsWhole) (arg6 : Memref sig .tc .vmem S1024x2048 .f32) (harg6 : arg6.IsWhole) (arg7 : Memref sig .tc .vmem S1024x2048 .bf16) (harg7 : arg7.IsWhole) (hc : cond0_0 i)
    (x0 : Vec Ideal S1024x2048 .f32) (x1 : Vec Ideal S1x2048 .f32) (x2 : Vec Ideal S1x2048x512 .bf16) (x3 : Vec Ideal S1x512x2048 .bf16) :
    out0_A_4 c i arg2 harg2 arg3 harg3 arg4 harg4 arg5 harg5 arg6 harg6 arg7 harg7 hc x0 x1 x2 x3 = k0_pay3 (k0_pay2 x0 x1) x2 x0 x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_cons_unit_zero (S := S1024x2048) hz2]
  simp only [View.readCov_unit_zero (S := S1024x2048) _ hz2]
  simp only [View.readAt_eq_ld, harg2.read_unread, harg3.read_unread, harg4.read_unread, harg5.read_unread, View.ld_unit_zero (S := S1024x2048) hz2, View.ld_unit_zero (S := S1x2048) hz2,
    View.ld_unit_zero (S := S1x2048x512) hz3, View.ld_unit_zero (S := S1x512x2048) hz3]
  rw [pay1_eq]

/-- At the later points it is what the point before left plus the next block of hidden columns. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole)
    (arg5 : Memref sig .tc .vmem S1x512x2048 .bf16) (harg5 : arg5.IsWhole) (arg6 : Memref sig .tc .vmem S1024x2048 .f32) (harg6 : arg6.IsWhole) (arg7 : Memref sig .tc .vmem S1024x2048 .bf16) (harg7 : arg7.IsWhole) (hc : ¬cond0_0 i)
    (x0 : Vec Ideal S1024x2048 .f32) (x1 : Vec Ideal S1x2048 .f32) (x2 : Vec Ideal S1x2048x512 .bf16) (x3 : Vec Ideal S1x512x2048 .bf16) (xo : Vec Ideal S1024x2048 .f32) (xs : Vec Ideal S1024x2048 .bf16) :
    out0_B_4 c i arg2 harg2 arg3 harg3 arg4 harg4 arg5 harg5 arg6 harg6 arg7 harg7 hc x0 x1 x2 x3 xo xs = k0_pay3 xs x2 xo x3 := by
  unfold out0_B_4
  rw [View.read_writes_eq_canon _ _ _ (cover0_B_4 c i arg2 harg2 arg3 harg3 arg4 harg4 arg5 harg5 arg6 harg6 arg7 harg7 hc x0 x1 x2 x3 xo xs)]
  unfold kernelRun0_B
  dsimp only
  rw [View.canon_unit_zero hz2]
  simp only [View.readAt_eq_ld, harg4.read_unread, harg5.read_unread, harg6.read_unread, harg7.read_unread, View.ld_unit_zero (S := S1024x2048) hz2, View.ld_unit_zero (S := S1x2048) hz2,
    View.ld_unit_zero (S := S1x2048x512) hz3, View.ld_unit_zero (S := S1x512x2048) hz3]

/-- The stored rows, element by element. -/
theorem pay2_apply (x0 : Vec Ideal S1024x2048 .f32) (x1 : Vec Ideal S1x2048 .f32) (r : Fin 1024) (k : Fin 2048) :
    k0_pay2 x0 x1 (ix2 r k) = rmsNorm (fun j => x0 (ix2 r j)) (fun j => x1 (ix2 0 j)) k := by
  unfold rmsNorm
  pointwise [k0_pay2, k0_pay1]

/-- One hidden number: the row's product with a column of the first weight, cut off below at zero, squared. -/
def act (h u : Fin 2048 → EReal) : EReal := max (∑ k : Fin 2048, h k * u k) 0 * max (∑ k : Fin 2048, h k * u k) 0

/-- What one point adds to the output block, element by element. -/
theorem pay3_apply (s : Vec Ideal S1024x2048 .bf16) (u : Vec Ideal S1x2048x512 .bf16) (o : Vec Ideal S1024x2048 .f32) (d : Vec Ideal S1x512x2048 .bf16)
    (r : Fin 1024) (l : Fin 2048) :
    k0_pay3 s u o d (ix2 r l) = o (ix2 r l) + ∑ j : Fin 512, act (fun k => s (ix2 r k)) (fun k => u (ix3 0 k j)) * d (ix3 0 j l) := by
  unfold act
  pointwise [k0_pay3]

/-! ## The arrays the region finds, and the blocks it reads -/

variable (m : (ℓ : Loc nD τ sig) → Buf (Elt Ideal) ℓ)

/-- The four arguments on core `c`, as functions of their indices. -/
abbrev argX (c : Dev nD) : Vec Ideal S2x4096x2048 .f32 := m ((c : Thread nD τ).loc main_arg0)
abbrev argN (c : Dev nD) : Vec Ideal S4x2048 .f32 := m ((c : Thread nD τ).loc main_arg1)
abbrev argU (c : Dev nD) : Vec Ideal S4x2048x8192 .f32 := m ((c : Thread nD τ).loc main_arg2)
abbrev argD (c : Dev nD) : Vec Ideal S4x8192x2048 .f32 := m ((c : Thread nD τ).loc main_arg3)

/-- The rows the region finds: the argument's two batches laid one after the other. -/
theorem V_x (c : Dev nD) : (V m c main_v0 : Vec Ideal S8192x2048 .f32)
    = shapeCast S8192x2048 (argX m c) shapeCasts_S2x4096x2048_S8192x2048 := by
  show StableHlo.after hostOps0 _ (Proc.devRef .tc main_v0) = _
  after_results; rfl

/-- The gain the region finds: the first row of the argument. -/
theorem V_n (c : Dev nD) : (V m c main_v5 : Vec Ideal S1x2048 .f32)
    = shapeCast S1x2048 (shapeCast S2048 (extractStridedSlice S1x2048 ![0, 0] (argN m c) slices_S4x2048_S1x2048_0_0) shapeCasts_S1x2048_S2048) shapeCasts_S2048_S1x2048 := by
  show StableHlo.after hostOps0 _ (Proc.devRef .tc main_v5) = _
  after_results; rfl

/-- The two weights the region finds. -/
theorem V_u (c : Dev nD) : @Eq (FVec Ideal S4x2048x8192 .bf16) (V m c main_v3) (truncf .bf16 (argU m c) bitsLt_bf16_f32) := by
  show StableHlo.after hostOps0 _ (Proc.devRef .tc main_v3) = _
  after_results
theorem V_d (c : Dev nD) : @Eq (FVec Ideal S4x8192x2048 .bf16) (V m c main_v4) (truncf .bf16 (argD m c) bitsLt_bf16_f32) := by
  show StableHlo.after hostOps0 _ (Proc.devRef .tc main_v4) = _
  after_results

/-- Row `r` of the joined batches is row `r % 4096` of batch `r / 4096`. -/
theorem V_x_apply (c : Dev nD) (r : Fin 8192) (k : Fin 2048) : (V m c main_v0 : Vec Ideal S8192x2048 .f32) (ix2 r k)
    = argX m c (ix3 ⟨r.val / 4096, by omega⟩ ⟨r.val % 4096, by omega⟩ k) := by
  rw [V_x]
  pointwise []

/-- The gain is row 0 of the argument. -/
theorem V_n_apply (c : Dev nD) (k : Fin 2048) : (V m c main_v5 : Vec Ideal S1x2048 .f32) (ix2 0 k) = argN m c (ix2 0 k) := by
  rw [V_n]
  pointwise []

/-- The array row of block row `r` at point `t`. -/
def row (t : Fin cfg0.N) (r : Fin 1024) : Fin 8192 := ⟨t.val / 16 * 1024 + r.val, by have := t.isLt; have : cfg0.N = 128 := N_0; omega⟩
/-- The hidden column of block column `l` in hidden block `j`, of sixteen. -/
def hid (j : ℕ) (l : Fin 512) : Fin 8192 := ⟨j % 16 * 512 + l.val, by omega⟩

/-- Which block each array is read or written by at each point. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 ∧ win0_2.index t 2 = t.val % 16 :=
  (by decide +kernel : ∀ t : Fin grid0.N, win0_2.index t 0 = 0 ∧ win0_2.index t 1 = 0 ∧ win0_2.index t 2 = t.val % 16)
theorem index3 : ∀ t : Fin cfg0.N, win0_3.index t 0 = 0 ∧ win0_3.index t 1 = t.val % 16 ∧ win0_3.index t 2 = 0 :=
  (by decide +kernel : ∀ t : Fin grid0.N, win0_3.index t 0 = 0 ∧ win0_3.index t 1 = t.val % 16 ∧ win0_3.index t 2 = 0)
theorem index4 : ∀ t : Fin cfg0.N, win0_4.index t 0 = t.val / 16 ∧ win0_4.index t 1 = 0 :=
  (by decide +kernel : ∀ t : Fin grid0.N, win0_4.index t 0 = t.val / 16 ∧ win0_4.index t 1 = 0)

/-- The block of rows at point `t`. -/
theorem iblk0 (c : Dev nD) (t : Fin cfg0.N) (r : Fin 1024) (k : Fin 2048) :
    (iblk m c 0 t : Vec Ideal S1024x2048 .f32) (ix2 r k) = (V m c main_v0 : Vec Ideal S8192x2048 .f32) (ix2 (row t r) k) := by
  unfold iblk
  rw [View.read_apply]
  show V m c main_v0 _ = _
  congr 1
  funext a
  apply Fin.ext
  match a with
  | ⟨0, _⟩ => show win0_0.index t 0 * 1024 + 1 * r.val = t.val / 16 * 1024 + r.val; rw [(index0 t).1]; omega
  | ⟨1, _⟩ => show win0_0.index t 1 * 2048 + 1 * k.val = k.val; rw [(index0 t).2]; omega

/-- The gain block: the whole gain, at every point. -/
theorem iblk1 (c : Dev nD) (t : Fin cfg0.N) (k : Fin 2048) :
    (iblk m c 1 t : Vec Ideal S1x2048 .f32) (ix2 0 k) = (V m c main_v5 : Vec Ideal S1x2048 .f32) (ix2 0 k) := by
  unfold iblk
  rw [View.read_apply]
  show V m c main_v5 _ = _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

/-- The first weight's block: all its rows, 512 hidden columns. -/
theorem iblk2 (c : Dev nD) (t : Fin cfg0.N) (k : Fin 2048) (l : Fin 512) :
    (iblk m c 2 t : Vec Ideal S1x2048x512 .bf16) (ix3 0 k l) = (V m c main_v3 : Vec Ideal S4x2048x8192 .bf16) (ix3 0 k (hid t.val l)) := by
  unfold iblk
  rw [View.read_apply]
  show V m c main_v3 _ = _
  congr 1
  funext a
  apply Fin.ext
  match a with
  | ⟨0, _⟩ => show win0_2.index t 0 * 1 + 1 * 0 = 0; rw [(index2 t).1]
  | ⟨1, _⟩ => show win0_2.index t 1 * 2048 + 1 * k.val = k.val; rw [(index2 t).2.1]; omega
  | ⟨2, _⟩ => show win0_2.index t 2 * 512 + 1 * l.val = t.val % 16 * 512 + l.val; rw [(index2 t).2.2]; omega

/-- The second weight's block: the rows of those 512 hidden columns. -/
theorem iblk3 (c : Dev nD) (t : Fin cfg0.N) (l : Fin 512) (k : Fin 2048) :
    (iblk m c 3 t : Vec Ideal S1x512x2048 .bf16) (ix3 0 l k) = (V m c main_v4 : Vec Ideal S4x8192x2048 .bf16) (ix3 0 (hid t.val l) k) := by
  unfold iblk
  rw [View.read_apply]
  show V m c main_v4 _ = _
  congr 1
  funext a
  apply Fin.ext
  match a with
  | ⟨0, _⟩ => show win0_3.index t 0 * 1 + 1 * 0 = 0; rw [(index3 t).1]
  | ⟨1, _⟩ => show win0_3.index t 1 * 512 + 1 * l.val = t.val % 16 * 512 + l.val; rw [(index3 t).2.1]; omega
  | ⟨2, _⟩ => show win0_3.index t 2 * 2048 + 1 * k.val = k.val; rw [(index3 t).2.2]; omega

/-! ## What each point leaves, as a function of the arguments -/

/-- The argument, and the normalised argument, at a row of the joined batches. -/
abbrev joined (c : Dev nD) (r : Fin 8192) (k : Fin 2048) : EReal := argX m c (ix3 ⟨r.val / 4096, by omega⟩ ⟨r.val % 4096, by omega⟩ k)
abbrev normed (c : Dev nD) (r : Fin 8192) (k : Fin 2048) : EReal := rmsNorm (joined m c r) (fun j => argN m c (ix2 0 j)) k

/-- Hidden number `h` of row `r`, times its weight towards column `l`. -/
def term (c : Dev nD) (r : Fin 8192) (l : Fin 2048) (h : Fin 8192) : EReal :=
  act (normed m c r) (fun k => argU m c (ix3 0 k h)) * argD m c (ix3 0 h l)

/-- The rows a first point of a row block normalises are the argument's. -/
theorem fresh (c : Dev nD) (t : Fin cfg0.N) (r : Fin 1024) (k : Fin 2048) :
    k0_pay2 (F := Ideal) (iblk m c 0 t) (iblk m c 1 t) (ix2 r k) = normed m c (row t r) k :=
  (pay2_apply _ _ r k).trans (congrArg₂ (fun x w => rmsNorm x w k)
    (funext fun j => (iblk0 m c t r j).trans (V_x_apply m c (row t r) j)) (funext fun j => (iblk1 m c t j).trans (V_n_apply m c j)))

/-- Points of one row block have the same array rows. -/
theorem row_succ (n : ℕ) (h : n + 1 < cfg0.N) (h0 : ¬(n + 1) % 16 = 0) (r : Fin 1024) : row ⟨n, Nat.lt_of_succ_lt h⟩ r = row ⟨n + 1, h⟩ r := by
  apply Fin.ext
  show n / 16 * 1024 + r.val = (n + 1) / 16 * 1024 + r.val
  omega

/-- After every point the scratch holds the normalised rows of that point's row block. -/
theorem scratch (c : Dev nD) (r : Fin 1024) (k : Fin 2048) : ∀ (n : ℕ) (h : n < cfg0.N), (outsAt0 m c n h).2 (ix2 r k) = normed m c (row ⟨n, h⟩ r) k := by
  intro n
  induction n with
  | zero =>
    intro h
    rw [outsAt0_A m c ⟨0, h⟩ (Nat.zero_mod _), scr_A]
    exact fresh m c ⟨0, h⟩ r k
  | succ n ih =>
    intro h
    by_cases h0 : (n + 1) % 16 = 0
    · rw [outsAt0_A m c ⟨n + 1, h⟩ h0, scr_A]
      exact fresh m c ⟨n + 1, h⟩ r k
    · rw [outsAt0_B m c ⟨n + 1, h⟩ h0]
      exact (ih (Nat.lt_of_succ_lt h)).trans (by rw [row_succ n h h0])

/-- What point `t` adds, when the rows it multiplies are the normalised ones: the terms of its block of hidden columns. -/
theorem add_apply (c : Dev nD) (t : Fin cfg0.N) (r : Fin 1024) (l : Fin 2048) (s : Vec Ideal S1024x2048 .bf16) (o : Vec Ideal S1024x2048 .f32)
    (hs : ∀ k : Fin 2048, s (ix2 r k) = normed m c (row t r) k) :
    k0_pay3 (F := Ideal) s (iblk m c 2 t) o (iblk m c 3 t) (ix2 r l) = o (ix2 r l) + ∑ j : Fin 512, term m c (row t r) l (hid t.val j) := by
  refine (pay3_apply _ _ _ _ r l).trans (congrArg (o (ix2 r l) + ·) (Finset.sum_congr rfl fun j _ => ?_))
  unfold term
  refine congrArg₂ (· * ·) (congrArg₂ act (funext fun k => hs k) (funext fun k => ?_)) ?_
  · rw [iblk2, V_u]; rfl
  · rw [iblk3, V_d]; rfl

/-- What the first point of a row block leaves in the output block. -/
theorem out_first (c : Dev nD) (t : Fin cfg0.N) (h0 : t.val % 16 = 0) : (outsAt0 m c t.val t.isLt).1
    = k0_pay3 (F := Ideal) (k0_pay2 (F := Ideal) (iblk m c 0 t) (iblk m c 1 t)) (iblk m c 2 t) (iblk m c 0 t) (iblk m c 3 t) := by
  rw [outsAt0_A m c t h0]
  dsimp only
  rw [out_A]

/-- What a later point leaves there. -/
theorem out_next (c : Dev nD) (n : ℕ) (h : n + 1 < cfg0.N) (h0 : ¬(n + 1) % 16 = 0) : (outsAt0 m c (n + 1) h).1
    = k0_pay3 (F := Ideal) (outsAt0 m c n (Nat.lt_of_succ_lt h)).2 (iblk m c 2 ⟨n + 1, h⟩) (outsAt0 m c n (Nat.lt_of_succ_lt h)).1 (iblk m c 3 ⟨n + 1, h⟩) := by
  rw [outsAt0_B m c ⟨n + 1, h⟩ h0]
  dsimp only
  rw [out_B]
  simp only [Nat.add_sub_cancel]

/-- After the first point of a row block the output block holds the input plus the first hidden block. -/
theorem sofar_first (c : Dev nD) (r : Fin 1024) (l : Fin 2048) (t : Fin cfg0.N) (h0 : t.val % 16 = 0) : (outsAt0 m c t.val t.isLt).1 (ix2 r l)
    = joined m c (row t r) l + ∑ b ∈ Finset.range (t.val % 16 + 1), ∑ j : Fin 512, term m c (row t r) l (hid b j) := by
  rw [out_first m c t h0, add_apply m c t r l _ _ (fresh m c t r), iblk0, V_x_apply, h0, Finset.sum_range_succ, Finset.sum_range_zero, zero_add]
  have e : ∀ j, hid t.val j = hid 0 j := fun j => Fin.ext (by show t.val % 16 * 512 + j.val = 0 % 16 * 512 + j.val; rw [h0])
  simp only [e]

/-- After point `n` the output block holds the input plus the hidden blocks so far. -/
theorem sofar (c : Dev nD) (r : Fin 1024) (l : Fin 2048) : ∀ (n : ℕ) (h : n < cfg0.N), (outsAt0 m c n h).1 (ix2 r l)
    = joined m c (row ⟨n, h⟩ r) l + ∑ b ∈ Finset.range (n % 16 + 1), ∑ j : Fin 512, term m c (row ⟨n, h⟩ r) l (hid b j) := by
  intro n
  induction n with
  | zero => exact fun h => sofar_first m c r l ⟨0, h⟩ (Nat.zero_mod _)
  | succ n ih =>
    intro h
    by_cases h0 : (n + 1) % 16 = 0
    · exact sofar_first m c r l ⟨n + 1, h⟩ h0
    · have hs : ∀ k : Fin 2048, (outsAt0 m c n (Nat.lt_of_succ_lt h)).2 (ix2 r k) = normed m c (row ⟨n + 1, h⟩ r) k :=
        fun k => (scratch m c r k n (Nat.lt_of_succ_lt h)).trans (by rw [row_succ n h h0])
      have e : ∀ j, hid (n + 1) j = hid (n % 16 + 1) j := fun j => Fin.ext (by show (n + 1) % 16 * 512 + j.val = (n % 16 + 1) % 16 * 512 + j.val; omega)
      rw [out_next m c n h h0, add_apply m c ⟨n + 1, h⟩ r l _ _ hs, ih (Nat.lt_of_succ_lt h), row_succ n h h0,
        show (n + 1) % 16 + 1 = (n % 16 + 1) + 1 from by omega, Finset.sum_range_succ _ (n % 16 + 1), add_assoc]
      simp only [e]

/-- Sixteen blocks of 512 hidden columns are the 8192 hidden columns. -/
theorem sum_blocks (f : Fin 8192 → EReal) : ∑ b ∈ Finset.range 16, ∑ j : Fin 512, f (hid b j) = ∑ h : Fin 8192, f h := by
  rw [Finset.sum_range, ← Fintype.sum_prod_type' (f := fun (b : Fin 16) (j : Fin 512) => f (hid b.val j))]
  refine Fintype.sum_equiv (finProdFinEquiv (m := 16) (n := 512)) _ _ fun x => ?_
  congr 1
  apply Fin.ext
  show x.1.val % 16 * 512 + x.2.val = x.2.val + 512 * x.1.val
  have := x.1.isLt
  omega

/-! ## The result array -/

/-- The result both programs leave: the reference's value of the arguments. -/
abbrev G (c : Dev nD) : Vec Ideal S8192x2048 .f32 := Cert.Reference2Ideal.Read.val_main_v24 (F := Ideal) (argX m c) (argN m c) (argU m c) (argD m c)

/-- The reference's value, read at a row and a column. -/
theorem G_apply (c : Dev nD) (r : Fin 8192) (l : Fin 2048) : G m c (ix2 r l) = joined m c r l + ∑ h : Fin 8192, term m c r l h := by
  unfold G term act normed rmsNorm joined
  pointwise [Cert.Reference2Ideal.Read.val_main_v0, Cert.Reference2Ideal.Read.val_main_v1, Cert.Reference2Ideal.Read.val_main_v2, Cert.Reference2Ideal.Read.val_main_cst, Cert.Reference2Ideal.Read.val_main_v3, Cert.Reference2Ideal.Read.val_main_v4, Cert.Reference2Ideal.Read.val_main_cst_0, Cert.Reference2Ideal.Read.val_main_v5, Cert.Reference2Ideal.Read.val_main_v6, Cert.Reference2Ideal.Read.val_main_cst_1, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_call0_cst, Cert.Reference2Ideal.Read.val_main_call0_v0, Cert.Reference2Ideal.Read.val_main_v20, Cert.Reference2Ideal.Read.val_main_v21, Cert.Reference2Ideal.Read.val_main_v22, Cert.Reference2Ideal.Read.val_main_v23, Cert.Reference2Ideal.Read.val_main_v24]

/-- What the last point `t` of a row block writes back is its block of the reference's value. -/
theorem flushed_eq (c : Dev nD) (t : Fin cfg0.N) (hf : (cfg0.win 4).flush t = true) :
    (dats m 0 c).flushed 4 t = ((cfg0.win 4).blk t).view.read (Elt Ideal) (G m c) := by
  have hl := (flush0_4 t).mp hf
  rw [Value.flushed4]
  funext y
  obtain ⟨r, l, rfl⟩ : ∃ (r : Fin 1024) (l : Fin 2048), y = ix2 r l := ⟨y 0, y 1, eq_ix2 y⟩
  rw [View.read_apply]
  show (outsAt0 m c t.val t.isLt).1 (ix2 r l) = G m c _
  rw [sofar, show ((cfg0.win 4).blk t).view.emb (ix2 r l) = (ix2 (row t r) l : S8192x2048.Idx) from by
    funext a
    apply Fin.ext
    match a with
    | ⟨0, _⟩ => show win0_4.index t 0 * 1024 + 1 * r.val = t.val / 16 * 1024 + r.val; rw [(index4 t).1]; omega
    | ⟨1, _⟩ => show win0_4.index t 1 * 2048 + 1 * l.val = l.val; rw [(index4 t).2]; omega]
  rw [G_apply, hl, sum_blocks]

/-- Every element of the result array is in the block of some row block's last point. -/
theorem cover (i : S8192x2048.Idx) : ∃ t : Fin cfg0.N, (cfg0.win 4).flush t = true ∧ i ∈ ((cfg0.win 4).blk t).view.set := by
  have h0 : (i 0).val < 8192 := (i 0).isLt
  have hN : cfg0.N = 128 := N_0
  obtain ⟨t, ht⟩ : ∃ t : Fin cfg0.N, t.val = 16 * ((i 0).val / 1024) + 15 := ⟨⟨16 * ((i 0).val / 1024) + 15, by omega⟩, rfl⟩
  refine ⟨t, (flush0_4 t).mpr (by omega), ?_⟩
  have e : @Eq S8192x2048.Idx (((cfg0.win 4).blk t).view.emb (ix2 (⟨(i 0).val % 1024, by omega⟩ : Fin 1024) (i 1) : S1024x2048.Idx)) i := by
    funext a
    apply Fin.ext
    match a with
    | ⟨0, _⟩ => show win0_4.index t 0 * 1024 + 1 * ((i 0).val % 1024) = (i 0).val; rw [(index4 t).1]; omega
    | ⟨1, _⟩ => show win0_4.index t 1 * 2048 + 1 * (i 1).val = (i 1).val; rw [(index4 t).2]; omega
  rw [← e]
  exact View.emb_mem_set _ _

/-- So the result array ends holding the reference's value. -/
theorem final (c : Dev nD) : (dats m 0 c).arrAt 4 cfg0.N = G m c :=
  (dats m 0 c).arrAt_eq_of_cover 4 (G m c) (flushed_eq m c) cover

/-- The reference runs, keeps its arguments and leaves every semaphore at zero. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel and the reference leave the same result on the same arguments. -/
theorem algebraic : Cert.algebraic_Kernel2Ideal_Reference2Ideal := fun m g m' g' _ hag =>
  ⟨fun c => G m c,
    (θ_run defs _ _).mono (fun r h c => ⟨(h c).1.trans (final m c), (h c).2⟩) (Value.run_blocks m g),
    (θ_run Cert.Reference2Ideal.defs _ _).mono (fun r h c => ⟨(h c).1.trans ((Cert.Reference2Ideal.Read.val_main_v24_eq _ _ _ _).trans (by
      rw [(hag c).1, (hag c).2.1, (hag c).2.2.1, (hag c).2.2.2])), (h c).2⟩) (Cert.Reference2Ideal.Value.run m' g')⟩

end Cert.Mlp
-- ==== Proof.NormedEven.lean ====
/-
  The even layer's input projection after its norm: 8192 rows, each normalised and multiplied by a 2048 × 7168 weight, 1024
  rows and 896 columns a grid point. The normalised rows are computed at the first column block of a row block, kept in a
  scratch and reused by the other seven. The kernel's result array is, element by element, the reference's.
-/
module

public import proofs.«01_k».proof.Defs
public import proofs.«01_k».proof.Proof.Norm
public import proofs.«01_k».proof.Proof.Gen.Kernel3Ideal.Value
public import proofs.«01_k».proof.Proof.Gen.Reference3Ideal.Read
public import Idealize.ShloMosaic.Lib.Pointwise
public import Idealize.ShloMosaic.Lib.Claim
public import Idealize.ShloMosaic.Lib.Quiescent

@[expose] public section

set_option maxRecDepth 16384

noncomputable section

namespace Cert.NormedEven

open Cert.Kernel3Ideal Cert.Kernel3Ideal.Gen Idealize.ShloMosaic Idealize.ShloMosaic.TcCoe Idealize.SL.Sem
open Idealize.ShloMosaic.Pipeline (Dat)
open Cert.Norm (rmsNorm)

/-- Two and three zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point's body leaves -/

/-- At the first column block of a row block the body leaves the normalised rows in its scratch. -/
theorem scr_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x896 .f32) (harg4 : arg4.IsWhole)
    (arg5 : Memref sig .tc .vmem S1024x896 .f32) (harg5 : arg5.IsWhole) (arg6 : Memref sig .tc .vmem S1024x2048 .bf16) (harg6 : arg6.IsWhole) (hc : cond0_0 i)
    (x0 : Vec Ideal S1024x2048 .f32) (x1 : Vec Ideal S1x2048 .f32) (x2 : Vec Ideal S1x2048x896 .f32) :
    sout0_A_0 c i arg2 harg2 arg3 harg3 arg4 harg4 arg5 harg5 arg6 harg6 hc x0 x1 x2 = k0_pay1 x0 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  sl_unfold_words
  rw [View.canon_unit_zero hz2]
  simp only [View.readAt_eq_ld, harg2.read_unread, harg3.read_unread, View.ld_unit_zero (S := S1024x2048) hz2, View.ld_unit_zero (S := S1x2048) hz2]

/-- At that point the output block is the product of the rows just normalised with the weight block. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x896 .f32) (harg4 : arg4.IsWhole)
    (arg5 : Memref sig .tc .vmem S1024x896 .f32) (harg5 : arg5.IsWhole) (arg6 : Memref sig .tc .vmem S1024x2048 .bf16) (harg6 : arg6.IsWhole) (hc : cond0_0 i)
    (x0 : Vec Ideal S1024x2048 .f32) (x1 : Vec Ideal S1x2048 .f32) (x2 : Vec Ideal S1x2048x896 .f32) :
    out0_A_3 c i arg2 harg2 arg3 harg3 arg4 harg4 arg5 harg5 arg6 harg6 hc x0 x1 x2 = k0_pay2 (k0_pay1 x0 x1) x2 := by
  unfold out0_A_3
  rw [View.read_writes_eq_canon _ _ _ (cover0_A_3 c i arg2 harg2 arg3 harg3 arg4 harg4 arg5 harg5 arg6 harg6 hc x0 x1 x2)]
  unfold kernelRun0_A
  dsimp only
  sl_unfold_words
  rw [View.canon_unit_zero hz2, View.readCov_unit_zero (S := S1024x2048) _ hz2]
  simp only [View.readAt_eq_ld, harg2.read_unread, harg3.read_unread, harg4.read_unread, View.ld_unit_zero (S := S1024x2048) hz2,
    View.ld_unit_zero (S := S1x2048) hz2, View.ld_unit_zero (S := S1x2048x896) hz3]

/-- At the later column blocks it is the product of the rows the scratch still holds with the weight block. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x896 .f32) (harg4 : arg4.IsWhole)
    (arg5 : Memref sig .tc .vmem S1024x896 .f32) (harg5 : arg5.IsWhole) (arg6 : Memref sig .tc .vmem S1024x2048 .bf16) (harg6 : arg6.IsWhole) (hc : ¬cond0_0 i)
    (x0 : Vec Ideal S1024x2048 .f32) (x1 : Vec Ideal S1x2048 .f32) (x2 : Vec Ideal S1x2048x896 .f32) (xs : Vec Ideal S1024x2048 .bf16) :
    out0_B_3 c i arg2 harg2 arg3 harg3 arg4 harg4 arg5 harg5 arg6 harg6 hc x0 x1 x2 xs = k0_pay2 xs x2 := by
  unfold out0_B_3
  rw [View.read_writes_eq_canon _ _ _ (cover0_B_3 c i arg2 harg2 arg3 harg3 arg4 harg4 arg5 harg5 arg6 harg6 hc x0 x1 x2 xs)]
  unfold kernelRun0_B
  dsimp only
  rw [View.canon_unit_zero hz2]
  simp only [View.readAt_eq_ld, harg4.read_unread, harg6.read_unread, View.ld_unit_zero (S := S1024x2048) hz2, View.ld_unit_zero (S := S1x2048x896) hz3]

/-- The stored rows, element by element. -/
theorem pay1_apply (x0 : Vec Ideal S1024x2048 .f32) (x1 : Vec Ideal S1x2048 .f32) (r : Fin 1024) (k : Fin 2048) :
    k0_pay1 x0 x1 (ix2 r k) = rmsNorm (fun j => x0 (ix2 r j)) (fun j => x1 (ix2 0 j)) k := by
  unfold rmsNorm
  pointwise [k0_pay1]

/-- The block product, element by element. -/
theorem pay2_apply (x0 : Vec Ideal S1024x2048 .bf16) (x1 : Vec Ideal S1x2048x896 .f32) (r : Fin 1024) (l : Fin 896) :
    k0_pay2 x0 x1 (ix2 r l) = ∑ k : Fin 2048, x0 (ix2 r k) * x1 (ix3 0 k l) := by
  pointwise [k0_pay2]

/-! ## The arrays the region finds, and the blocks it reads -/

variable (m : (ℓ : Loc nD τ sig) → Buf (Elt Ideal) ℓ)

/-- The three arguments on core `c`, as functions of their indices. -/
abbrev argX (c : Dev nD) : Vec Ideal S2x4096x2048 .f32 := m ((c : Thread nD τ).loc main_arg0)
abbrev argN (c : Dev nD) : Vec Ideal S4x2048 .f32 := m ((c : Thread nD τ).loc main_arg1)
abbrev argW (c : Dev nD) : Vec Ideal S2x2048x7168 .f32 := m ((c : Thread nD τ).loc main_arg2)

/-- The rows the region finds: the argument's two batches laid one after the other. -/
theorem V_x (c : Dev nD) : (V m c main_v0 : Vec Ideal S8192x2048 .f32)
    = shapeCast S8192x2048 (argX m c) shapeCasts_S2x4096x2048_S8192x2048 := by
  show StableHlo.after hostOps0 _ (Proc.devRef .tc main_v0) = _
  after_results; rfl

/-- The gain the region finds: one row of the argument. -/
theorem V_n (c : Dev nD) : (V m c main_v3 : Vec Ideal S1x2048 .f32)
    = shapeCast S1x2048 (shapeCast S2048 (extractStridedSlice S1x2048 ![0, 0] (argN m c) slices_S4x2048_S1x2048_0_0) shapeCasts_S1x2048_S2048) shapeCasts_S2048_S1x2048 := by
  show StableHlo.after hostOps0 _ (Proc.devRef .tc main_v3) = _
  after_results; rfl

/-- Row `r` of the joined batches is row `r % 4096` of batch `r / 4096`. -/
theorem V_x_apply (c : Dev nD) (r : Fin 8192) (k : Fin 2048) : (V m c main_v0 : Vec Ideal S8192x2048 .f32) (ix2 r k)
    = argX m c (ix3 ⟨r.val / 4096, by omega⟩ ⟨r.val % 4096, by omega⟩ k) := by
  rw [V_x]
  pointwise []

/-- The gain is row 0 of the argument. -/
theorem V_n_apply (c : Dev nD) (k : Fin 2048) : (V m c main_v3 : Vec Ideal S1x2048 .f32) (ix2 0 k) = argN m c (ix2 0 k) := by
  rw [V_n]
  pointwise []

/-- The array row of block row `r`, and the column of block column `l`, at point `t`. -/
def row (t : Fin cfg0.N) (r : Fin 1024) : Fin 8192 := ⟨t.val / 8 * 1024 + r.val, by have := t.isLt; have : cfg0.N = 64 := N_0; omega⟩
def col (t : Fin cfg0.N) (l : Fin 896) : Fin 7168 := ⟨t.val % 8 * 896 + l.val, by omega⟩
/-- That column among the weight's columns. -/
def wcol (t : Fin cfg0.N) (l : Fin 896) : Fin 7168 := ⟨t.val % 8 * 896 + l.val, by omega⟩

/-- Which block each array is read or written by at each point. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 ∧ win0_2.index t 2 = t.val % 8 :=
  (by decide +kernel : ∀ t : Fin grid0.N, win0_2.index t 0 = 0 ∧ win0_2.index t 1 = 0 ∧ win0_2.index t 2 = t.val % 8)
theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- The block of rows at point `t`. -/
theorem iblk0 (c : Dev nD) (t : Fin cfg0.N) (r : Fin 1024) (k : Fin 2048) :
    (iblk m c 0 t : Vec Ideal S1024x2048 .f32) (ix2 r k) = (V m c main_v0 : Vec Ideal S8192x2048 .f32) (ix2 (row t r) k) := by
  unfold iblk
  rw [View.read_apply]
  show V m c main_v0 _ = _
  congr 1
  funext a
  apply Fin.ext
  match a with
  | ⟨0, _⟩ => show win0_0.index t 0 * 1024 + 1 * r.val = t.val / 8 * 1024 + r.val; rw [(index0 t).1]; omega
  | ⟨1, _⟩ => show win0_0.index t 1 * 2048 + 1 * k.val = k.val; rw [(index0 t).2]; omega

/-- The gain block: the whole gain, at every point. -/
theorem iblk1 (c : Dev nD) (t : Fin cfg0.N) (k : Fin 2048) :
    (iblk m c 1 t : Vec Ideal S1x2048 .f32) (ix2 0 k) = (V m c main_v3 : Vec Ideal S1x2048 .f32) (ix2 0 k) := by
  unfold iblk
  rw [View.read_apply]
  show V m c main_v3 _ = _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

/-- The weight block at point `t`: all 2048 rows of the first layer's matrix, 896 columns. -/
theorem wblk (c : Dev nD) (t : Fin cfg0.N) (k : Fin 2048) (l : Fin 896) :
    (iblk m c 2 t : Vec Ideal S1x2048x896 .f32) (ix3 0 k l) = argW m c (ix3 0 k (wcol t l)) := by
  unfold iblk
  rw [View.read_apply]
  show V m c main_arg2 _ = _
  rw [V_main_arg2 m c]
  show m ((c : Thread nD τ).loc main_arg2) _ = m ((c : Thread nD τ).loc main_arg2) _
  congr 1
  funext a
  apply Fin.ext
  match a with
  | ⟨0, _⟩ => show win0_2.index t 0 * 1 + 1 * 0 = 0; rw [(index2 t).1]
  | ⟨1, _⟩ => show win0_2.index t 1 * 2048 + 1 * k.val = k.val; rw [(index2 t).2.1]; omega
  | ⟨2, _⟩ => show win0_2.index t 2 * 896 + 1 * l.val = t.val % 8 * 896 + l.val; rw [(index2 t).2.2]; omega

/-! ## What each point leaves, as a function of the arguments -/

/-- The normalised argument at a row of the joined batches. -/
abbrev normed (c : Dev nD) (r : Fin 8192) (k : Fin 2048) : EReal :=
  rmsNorm (fun j => argX m c (ix3 ⟨r.val / 4096, by omega⟩ ⟨r.val % 4096, by omega⟩ j)) (fun j => argN m c (ix2 0 j)) k

/-- The rows a first point of a row block normalises are the argument's. -/
theorem fresh (c : Dev nD) (t : Fin cfg0.N) (r : Fin 1024) (k : Fin 2048) :
    k0_pay1 (F := Ideal) (iblk m c 0 t) (iblk m c 1 t) (ix2 r k) = normed m c (row t r) k := by
  exact (pay1_apply _ _ r k).trans (congrArg₂ (fun x w => rmsNorm x w k)
    (funext fun j => (iblk0 m c t r j).trans (V_x_apply m c (row t r) j)) (funext fun j => (iblk1 m c t j).trans (V_n_apply m c j)))

/-- After every point the scratch holds the normalised rows of that point's row block: the first point of the row block put them
    there and the later ones keep them. -/
theorem scratch (c : Dev nD) (r : Fin 1024) (k : Fin 2048) : ∀ (n : ℕ) (h : n < cfg0.N), (outsAt0 m c n h).2 (ix2 r k) = normed m c (row ⟨n, h⟩ r) k := by
  intro n
  induction n with
  | zero =>
    intro h
    rw [outsAt0_A m c ⟨0, h⟩ (Nat.zero_mod _), scr_A]
    exact fresh m c ⟨0, h⟩ r k
  | succ n ih =>
    intro h
    by_cases h0 : (n + 1) % 8 = 0
    · rw [outsAt0_A m c ⟨n + 1, h⟩ h0, scr_A]
      exact fresh m c ⟨n + 1, h⟩ r k
    · rw [outsAt0_B m c ⟨n + 1, h⟩ h0]
      refine (ih (Nat.lt_of_succ_lt h)).trans ?_
      congr 1
      apply Fin.ext
      show n / 8 * 1024 + r.val = (n + 1) / 8 * 1024 + r.val
      omega

/-- So every point leaves, in its output block, the normalised rows times the weight's columns. -/
theorem out_apply (c : Dev nD) (t : Fin cfg0.N) (r : Fin 1024) (l : Fin 896) :
    (outsAt0 m c t.val t.isLt).1 (ix2 r l) = ∑ k : Fin 2048, normed m c (row t r) k * argW m c (ix3 0 k (wcol t l)) := by
  by_cases h0 : t.val % 8 = 0
  · rw [outsAt0_A m c t h0, out_A]
    refine (pay2_apply _ _ r l).trans (Finset.sum_congr rfl fun k _ => ?_)
    rw [fresh m c t r k, wblk]
  · rw [outsAt0_B m c t h0, out_B]
    refine (pay2_apply _ _ r l).trans (Finset.sum_congr rfl fun k _ => ?_)
    rw [scratch m c r k, wblk]
    congr 2
    apply Fin.ext
    show (t.val - 1) / 8 * 1024 + r.val = t.val / 8 * 1024 + r.val
    omega

/-! ## The result array -/

/-- The result both programs leave: the reference's value of the arguments. -/
abbrev G (c : Dev nD) : Vec Ideal S8192x7168 .f32 := Cert.Reference3Ideal.Read.val_main_v18 (F := Ideal) (argX m c) (argN m c) (argW m c)

/-- The reference's value, read at a row and a column. -/
theorem G_apply (c : Dev nD) (r : Fin 8192) (l : Fin 7168) : G m c (ix2 r l)
    = ∑ k : Fin 2048, normed m c r k * argW m c (ix3 0 k (⟨l.val, by omega⟩ : Fin 7168)) := by
  unfold G normed rmsNorm
  pointwise [Cert.Reference3Ideal.Read.val_main_v18, Cert.Reference3Ideal.Read.val_main_v17, Cert.Reference3Ideal.Read.val_main_v16, Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1]

/-- What point `t` writes back is its block of the reference's value. -/
theorem flushed_eq (c : Dev nD) (t : Fin cfg0.N) : (dats m 0 c).flushed 3 t = ((cfg0.win 3).blk t).view.read (Elt Ideal) (G m c) := by
  rw [Value.flushed3]
  funext y
  obtain ⟨r, l, rfl⟩ : ∃ (r : Fin 1024) (l : Fin 896), y = ix2 r l := ⟨y 0, y 1, eq_ix2 y⟩
  rw [View.read_apply]
  show (outsAt0 m c t.val t.isLt).1 (ix2 r l) = G m c _
  rw [out_apply, show ((cfg0.win 3).blk t).view.emb (ix2 r l) = (ix2 (row t r) (col t l) : S8192x7168.Idx) from by
    funext a
    apply Fin.ext
    match a with
    | ⟨0, _⟩ => show win0_3.index t 0 * 1024 + 1 * r.val = t.val / 8 * 1024 + r.val; rw [(index3 t).1]; omega
    | ⟨1, _⟩ => show win0_3.index t 1 * 896 + 1 * l.val = t.val % 8 * 896 + l.val; rw [(index3 t).2]; omega]
  rw [G_apply]
  rfl

/-- Every element of the result array is in some point's block. -/
theorem cover (i : S8192x7168.Idx) : ∃ t : Fin cfg0.N, (cfg0.win 3).flush t = true ∧ i ∈ ((cfg0.win 3).blk t).view.set := by
  have h0 : (i 0).val < 8192 := (i 0).isLt
  have h1 : (i 1).val < 7168 := (i 1).isLt
  have hN : cfg0.N = 64 := N_0
  obtain ⟨t, ht⟩ : ∃ t : Fin cfg0.N, t.val = 8 * ((i 0).val / 1024) + (i 1).val / 896 := ⟨⟨8 * ((i 0).val / 1024) + (i 1).val / 896, by omega⟩, rfl⟩
  refine ⟨t, flush0_3 t, ?_⟩
  have e : @Eq S8192x7168.Idx (((cfg0.win 3).blk t).view.emb (ix2 (⟨(i 0).val % 1024, by omega⟩ : Fin 1024) (⟨(i 1).val % 896, by omega⟩ : Fin 896) : S1024x896.Idx)) i := by
    funext a
    apply Fin.ext
    match a with
    | ⟨0, _⟩ => show win0_3.index t 0 * 1024 + 1 * ((i 0).val % 1024) = (i 0).val; rw [(index3 t).1]; omega
    | ⟨1, _⟩ => show win0_3.index t 1 * 896 + 1 * ((i 1).val % 896) = (i 1).val; rw [(index3 t).2]; omega
  rw [← e]
  exact View.emb_mem_set _ _

/-- So the result array ends holding the reference's value. -/
theorem final (c : Dev nD) : (dats m 0 c).arrAt 3 cfg0.N = G m c :=
  (dats m 0 c).arrAt_eq_of_cover 3 (G m c) (fun t _ => flushed_eq m c t) cover

/-- The reference runs, keeps its arguments and leaves every semaphore at zero. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The kernel and the reference leave the same result on the same arguments. -/
theorem algebraic : Cert.algebraic_Kernel3Ideal_Reference3Ideal := fun m g m' g' _ hag =>
  ⟨fun c => G m c,
    (θ_run defs _ _).mono (fun r h c => ⟨(h c).1.trans (final m c), (h c).2⟩) (Value.run_blocks m g),
    (θ_run Cert.Reference3Ideal.defs _ _).mono (fun r h c => ⟨(h c).1.trans ((Cert.Reference3Ideal.Read.val_main_v18_eq _ _ _).trans (by
      rw [(hag c).1, (hag c).2.1, (hag c).2.2])), (h c).2⟩) (Cert.Reference3Ideal.Value.run m' g')⟩

end Cert.NormedEven
-- ==== Proof.NormedOdd.lean ====
/-
  The odd layer's input projection after its norm: 8192 rows, each normalised and multiplied by the first 5120 columns of a
  2048 × 5168 weight, 1024 rows and 512 columns a grid point. The normalised rows are computed at the first column block of a
  row block, kept in a scratch and reused by the other nine. The kernel's result array is, element by element, the reference's.
-/
module

public import proofs.«01_k».proof.Defs
public import proofs.«01_k».proof.Proof.Norm
public import proofs.«01_k».proof.Proof.Gen.Kernel4Ideal.Value
public import proofs.«01_k».proof.Proof.Gen.Reference4Ideal.Read
public import Idealize.ShloMosaic.Lib.Pointwise
public import Idealize.ShloMosaic.Lib.Claim
public import Idealize.ShloMosaic.Lib.Quiescent

@[expose] public section

set_option maxRecDepth 16384

noncomputable section

namespace Cert.NormedOdd

open Cert.Kernel4Ideal Cert.Kernel4Ideal.Gen Idealize.ShloMosaic Idealize.ShloMosaic.TcCoe Idealize.SL.Sem
open Idealize.ShloMosaic.Pipeline (Dat)
open Cert.Norm (rmsNorm)

/-- Two and three zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point's body leaves -/

/-- At the first column block of a row block the body leaves the normalised rows in its scratch. -/
theorem scr_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole)
    (arg5 : Memref sig .tc .vmem S1024x512 .f32) (harg5 : arg5.IsWhole) (arg6 : Memref sig .tc .vmem S1024x2048 .bf16) (harg6 : arg6.IsWhole) (hc : cond0_0 i)
    (x0 : Vec Ideal S1024x2048 .f32) (x1 : Vec Ideal S1x2048 .f32) (x2 : Vec Ideal S1x2048x512 .f32) :
    sout0_A_0 c i arg2 harg2 arg3 harg3 arg4 harg4 arg5 harg5 arg6 harg6 hc x0 x1 x2 = k0_pay1 x0 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  sl_unfold_words
  rw [View.canon_unit_zero hz2]
  simp only [View.readAt_eq_ld, harg2.read_unread, harg3.read_unread, View.ld_unit_zero (S := S1024x2048) hz2, View.ld_unit_zero (S := S1x2048) hz2]

/-- At that point the output block is the product of the rows just normalised with the weight block. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole)
    (arg5 : Memref sig .tc .vmem S1024x512 .f32) (harg5 : arg5.IsWhole) (arg6 : Memref sig .tc .vmem S1024x2048 .bf16) (harg6 : arg6.IsWhole) (hc : cond0_0 i)
    (x0 : Vec Ideal S1024x2048 .f32) (x1 : Vec Ideal S1x2048 .f32) (x2 : Vec Ideal S1x2048x512 .f32) :
    out0_A_3 c i arg2 harg2 arg3 harg3 arg4 harg4 arg5 harg5 arg6 harg6 hc x0 x1 x2 = k0_pay2 (k0_pay1 x0 x1) x2 := by
  unfold out0_A_3
  rw [View.read_writes_eq_canon _ _ _ (cover0_A_3 c i arg2 harg2 arg3 harg3 arg4 harg4 arg5 harg5 arg6 harg6 hc x0 x1 x2)]
  unfold kernelRun0_A
  dsimp only
  sl_unfold_words
  rw [View.canon_unit_zero hz2, View.readCov_unit_zero (S := S1024x2048) _ hz2]
  simp only [View.readAt_eq_ld, harg2.read_unread, harg3.read_unread, harg4.read_unread, View.ld_unit_zero (S := S1024x2048) hz2,
    View.ld_unit_zero (S := S1x2048) hz2, View.ld_unit_zero (S := S1x2048x512) hz3]

/-- At the later column blocks it is the product of the rows the scratch still holds with the weight block. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole)
    (arg5 : Memref sig .tc .vmem S1024x512 .f32) (harg5 : arg5.IsWhole) (arg6 : Memref sig .tc .vmem S1024x2048 .bf16) (harg6 : arg6.IsWhole) (hc : ¬cond0_0 i)
    (x0 : Vec Ideal S1024x2048 .f32) (x1 : Vec Ideal S1x2048 .f32) (x2 : Vec Ideal S1x2048x512 .f32) (xs : Vec Ideal S1024x2048 .bf16) :
    out0_B_3 c i arg2 harg2 arg3 harg3 arg4 harg4 arg5 harg5 arg6 harg6 hc x0 x1 x2 xs = k0_pay2 xs x2 := by
  unfold out0_B_3
  rw [View.read_writes_eq_canon _ _ _ (cover0_B_3 c i arg2 harg2 arg3 harg3 arg4 harg4 arg5 harg5 arg6 harg6 hc x0 x1 x2 xs)]
  unfold kernelRun0_B
  dsimp only
  rw [View.canon_unit_zero hz2]
  simp only [View.readAt_eq_ld, harg4.read_unread, harg6.read_unread, View.ld_unit_zero (S := S1024x2048) hz2, View.ld_unit_zero (S := S1x2048x512) hz3]

/-- The stored rows, element by element. -/
theorem pay1_apply (x0 : Vec Ideal S1024x2048 .f32) (x1 : Vec Ideal S1x2048 .f32) (r : Fin 1024) (k : Fin 2048) :
    k0_pay1 x0 x1 (ix2 r k) = rmsNorm (fun j => x0 (ix2 r j)) (fun j => x1 (ix2 0 j)) k := by
  unfold rmsNorm
  pointwise [k0_pay1]

/-- The block product, element by element. -/
theorem pay2_apply (x0 : Vec Ideal S1024x2048 .bf16) (x1 : Vec Ideal S1x2048x512 .f32) (r : Fin 1024) (l : Fin 512) :
    k0_pay2 x0 x1 (ix2 r l) = ∑ k : Fin 2048, x0 (ix2 r k) * x1 (ix3 0 k l) := by
  pointwise [k0_pay2]

/-! ## The arrays the region finds, and the blocks it reads -/

variable (m : (ℓ : Loc nD τ sig) → Buf (Elt Ideal) ℓ)

/-- The three arguments on core `c`, as functions of their indices. -/
abbrev argX (c : Dev nD) : Vec Ideal S2x4096x2048 .f32 := m ((c : Thread nD τ).loc main_arg0)
abbrev argN (c : Dev nD) : Vec Ideal S4x2048 .f32 := m ((c : Thread nD τ).loc main_arg1)
abbrev argW (c : Dev nD) : Vec Ideal S2x2048x5168 .f32 := m ((c : Thread nD τ).loc main_arg2)

/-- The rows the region finds: the argument's two batches laid one after the other. -/
theorem V_x (c : Dev nD) : (V m c main_v0 : Vec Ideal S8192x2048 .f32)
    = shapeCast S8192x2048 (argX m c) shapeCasts_S2x4096x2048_S8192x2048 := by
  show StableHlo.after hostOps0 _ (Proc.devRef .tc main_v0) = _
  after_results; rfl

/-- The gain the region finds: one row of the argument. -/
theorem V_n (c : Dev nD) : (V m c main_v3 : Vec Ideal S1x2048 .f32)
    = shapeCast S1x2048 (shapeCast S2048 (extractStridedSlice S1x2048 ![1, 0] (argN m c) slices_S4x2048_S1x2048_1_0) shapeCasts_S1x2048_S2048) shapeCasts_S2048_S1x2048 := by
  show StableHlo.after hostOps0 _ (Proc.devRef .tc main_v3) = _
  after_results; rfl

/-- Row `r` of the joined batches is row `r % 4096` of batch `r / 4096`. -/
theorem V_x_apply (c : Dev nD) (r : Fin 8192) (k : Fin 2048) : (V m c main_v0 : Vec Ideal S8192x2048 .f32) (ix2 r k)
    = argX m c (ix3 ⟨r.val / 4096, by omega⟩ ⟨r.val % 4096, by omega⟩ k) := by
  rw [V_x]
  pointwise []

/-- The gain is row 1 of the argument. -/
theorem V_n_apply (c : Dev nD) (k : Fin 2048) : (V m c main_v3 : Vec Ideal S1x2048 .f32) (ix2 0 k) = argN m c (ix2 1 k) := by
  rw [V_n]
  pointwise []

/-- The array row of block row `r`, and the column of block column `l`, at point `t`. -/
def row (t : Fin cfg0.N) (r : Fin 1024) : Fin 8192 := ⟨t.val / 10 * 1024 + r.val, by have := t.isLt; have : cfg0.N = 80 := N_0; omega⟩
def col (t : Fin cfg0.N) (l : Fin 512) : Fin 5120 := ⟨t.val % 10 * 512 + l.val, by omega⟩
/-- That column among the weight's columns. -/
def wcol (t : Fin cfg0.N) (l : Fin 512) : Fin 5168 := ⟨t.val % 10 * 512 + l.val, by omega⟩

/-- Which block each array is read or written by at each point. -/
theorem index0 : ∀ t : Fin cfg0.N, win0_0.index t 0 = t.val / 10 ∧ win0_0.index t 1 = 0 :=
  (by decide +kernel : ∀ t : Fin grid0.N, win0_0.index t 0 = t.val / 10 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 ∧ win0_2.index t 2 = t.val % 10 :=
  (by decide +kernel : ∀ t : Fin grid0.N, win0_2.index t 0 = 0 ∧ win0_2.index t 1 = 0 ∧ win0_2.index t 2 = t.val % 10)
theorem index3 : ∀ t : Fin cfg0.N, win0_3.index t 0 = t.val / 10 ∧ win0_3.index t 1 = t.val % 10 :=
  (by decide +kernel : ∀ t : Fin grid0.N, win0_3.index t 0 = t.val / 10 ∧ win0_3.index t 1 = t.val % 10)

/-- The block of rows at point `t`. -/
theorem iblk0 (c : Dev nD) (t : Fin cfg0.N) (r : Fin 1024) (k : Fin 2048) :
    (iblk m c 0 t : Vec Ideal S1024x2048 .f32) (ix2 r k) = (V m c main_v0 : Vec Ideal S8192x2048 .f32) (ix2 (row t r) k) := by
  unfold iblk
  rw [View.read_apply]
  show V m c main_v0 _ = _
  congr 1
  funext a
  apply Fin.ext
  match a with
  | ⟨0, _⟩ => show win0_0.index t 0 * 1024 + 1 * r.val = t.val / 10 * 1024 + r.val; rw [(index0 t).1]; omega
  | ⟨1, _⟩ => show win0_0.index t 1 * 2048 + 1 * k.val = k.val; rw [(index0 t).2]; omega

/-- The gain block: the whole gain, at every point. -/
theorem iblk1 (c : Dev nD) (t : Fin cfg0.N) (k : Fin 2048) :
    (iblk m c 1 t : Vec Ideal S1x2048 .f32) (ix2 0 k) = (V m c main_v3 : Vec Ideal S1x2048 .f32) (ix2 0 k) := by
  unfold iblk
  rw [View.read_apply]
  show V m c main_v3 _ = _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

/-- The weight block at point `t`: all 2048 rows of the first layer's matrix, 512 columns. -/
theorem wblk (c : Dev nD) (t : Fin cfg0.N) (k : Fin 2048) (l : Fin 512) :
    X0_2 m c t (ix3 0 k l) = argW m c (ix3 0 k (wcol t l)) := by
  unfold X0_2 Pipeline.Window.fill
  rw [dif_pos (moved0_2 t _)]
  unfold iblk
  rw [View.read_apply]
  show V m c main_arg2 _ = _
  rw [V_main_arg2 m c]
  show m ((c : Thread nD τ).loc main_arg2) _ = m ((c : Thread nD τ).loc main_arg2) _
  congr 1
  funext a
  apply Fin.ext
  match a with
  | ⟨0, _⟩ => show win0_2.index t 0 * 1 + 1 * 0 = 0; rw [(index2 t).1]
  | ⟨1, _⟩ => show win0_2.index t 1 * 2048 + 1 * k.val = k.val; rw [(index2 t).2.1]; omega
  | ⟨2, _⟩ => show win0_2.index t 2 * 512 + 1 * l.val = t.val % 10 * 512 + l.val; rw [(index2 t).2.2]; omega

/-! ## What each point leaves, as a function of the arguments -/

/-- The normalised argument at a row of the joined batches. -/
abbrev normed (c : Dev nD) (r : Fin 8192) (k : Fin 2048) : EReal :=
  rmsNorm (fun j => argX m c (ix3 ⟨r.val / 4096, by omega⟩ ⟨r.val % 4096, by omega⟩ j)) (fun j => argN m c (ix2 1 j)) k

/-- The rows a first point of a row block normalises are the argument's. -/
theorem fresh (c : Dev nD) (t : Fin cfg0.N) (r : Fin 1024) (k : Fin 2048) :
    k0_pay1 (F := Ideal) (iblk m c 0 t) (iblk m c 1 t) (ix2 r k) = normed m c (row t r) k := by
  exact (pay1_apply _ _ r k).trans (congrArg₂ (fun x w => rmsNorm x w k)
    (funext fun j => (iblk0 m c t r j).trans (V_x_apply m c (row t r) j)) (funext fun j => (iblk1 m c t j).trans (V_n_apply m c j)))

/-- After every point the scratch holds the normalised rows of that point's row block: the first point of the row block put them
    there and the later ones keep them. -/
theorem scratch (c : Dev nD) (r : Fin 1024) (k : Fin 2048) : ∀ (n : ℕ) (h : n < cfg0.N), (outsAt0 m c n h).2 (ix2 r k) = normed m c (row ⟨n, h⟩ r) k := by
  intro n
  induction n with
  | zero =>
    intro h
    rw [outsAt0_A m c ⟨0, h⟩ (Nat.zero_mod _), scr_A]
    exact fresh m c ⟨0, h⟩ r k
  | succ n ih =>
    intro h
    by_cases h0 : (n + 1) % 10 = 0
    · rw [outsAt0_A m c ⟨n + 1, h⟩ h0, scr_A]
      exact fresh m c ⟨n + 1, h⟩ r k
    · rw [outsAt0_B m c ⟨n + 1, h⟩ h0]
      refine (ih (Nat.lt_of_succ_lt h)).trans ?_
      congr 1
      apply Fin.ext
      show n / 10 * 1024 + r.val = (n + 1) / 10 * 1024 + r.val
      omega

/-- So every point leaves, in its output block, the normalised rows times the weight's columns. -/
theorem out_apply (c : Dev nD) (t : Fin cfg0.N) (r : Fin 1024) (l : Fin 512) :
    (outsAt0 m c t.val t.isLt).1 (ix2 r l) = ∑ k : Fin 2048, normed m c (row t r) k * argW m c (ix3 0 k (wcol t l)) := by
  by_cases h0 : t.val % 10 = 0
  · rw [outsAt0_A m c t h0, out_A]
    refine (pay2_apply _ _ r l).trans (Finset.sum_congr rfl fun k _ => ?_)
    rw [fresh m c t r k, wblk]
  · rw [outsAt0_B m c t h0, out_B]
    refine (pay2_apply _ _ r l).trans (Finset.sum_congr rfl fun k _ => ?_)
    rw [scratch m c r k, wblk]
    congr 2
    apply Fin.ext
    show (t.val - 1) / 10 * 1024 + r.val = t.val / 10 * 1024 + r.val
    omega

/-! ## The result array -/

/-- The result both programs leave: the reference's value of the arguments. -/
abbrev G (c : Dev nD) : Vec Ideal S8192x5120 .f32 := Cert.Reference4Ideal.Read.val_main_v19 (F := Ideal) (argX m c) (argN m c) (argW m c)

/-- The reference's value, read at a row and a column. -/
theorem G_apply (c : Dev nD) (r : Fin 8192) (l : Fin 5120) : G m c (ix2 r l)
    = ∑ k : Fin 2048, normed m c r k * argW m c (ix3 0 k (⟨l.val, by omega⟩ : Fin 5168)) := by
  unfold G normed rmsNorm
  pointwise [Cert.Reference4Ideal.Read.val_main_v19, Cert.Reference4Ideal.Read.val_main_v18, Cert.Reference4Ideal.Read.val_main_v17, Cert.Reference4Ideal.Read.val_main_v16, Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_cst, Cert.Reference4Ideal.Read.val_main_cst_0, Cert.Reference4Ideal.Read.val_main_cst_1]

/-- What point `t` writes back is its block of the reference's value. -/
theorem flushed_eq (c : Dev nD) (t : Fin cfg0.N) : (dats m 0 c).flushed 3 t = ((cfg0.win 3).blk t).view.read (Elt Ideal) (G m c) := by
  rw [Value.flushed3]
  funext y
  obtain ⟨r, l, rfl⟩ : ∃ (r : Fin 1024) (l : Fin 512), y = ix2 r l := ⟨y 0, y 1, eq_ix2 y⟩
  rw [View.read_apply]
  show (outsAt0 m c t.val t.isLt).1 (ix2 r l) = G m c _
  rw [out_apply, show ((cfg0.win 3).blk t).view.emb (ix2 r l) = (ix2 (row t r) (col t l) : S8192x5120.Idx) from by
    funext a
    apply Fin.ext
    match a with
    | ⟨0, _⟩ => show win0_3.index t 0 * 1024 + 1 * r.val = t.val / 10 * 1024 + r.val; rw [(index3 t).1]; omega
    | ⟨1, _⟩ => show win0_3.index t 1 * 512 + 1 * l.val = t.val % 10 * 512 + l.val; rw [(index3 t).2]; omega]
  rw [G_apply]
  rfl

/-- Every element of the result array is in some point's block. -/
theorem cover (i : S8192x5120.Idx) : ∃ t : Fin cfg0.N, (cfg0.win 3).flush t = true ∧ i ∈ ((cfg0.win 3).blk t).view.set := by
  have h0 : (i 0).val < 8192 := (i 0).isLt
  have h1 : (i 1).val < 5120 := (i 1).isLt
  have hN : cfg0.N = 80 := N_0
  obtain ⟨t, ht⟩ : ∃ t : Fin cfg0.N, t.val = 10 * ((i 0).val / 1024) + (i 1).val / 512 := ⟨⟨10 * ((i 0).val / 1024) + (i 1).val / 512, by omega⟩, rfl⟩
  refine ⟨t, flush0_3 t, ?_⟩
  have e : @Eq S8192x5120.Idx (((cfg0.win 3).blk t).view.emb (ix2 (⟨(i 0).val % 1024, by omega⟩ : Fin 1024) (⟨(i 1).val % 512, by omega⟩ : Fin 512) : S1024x512.Idx)) i := by
    funext a
    apply Fin.ext
    match a with
    | ⟨0, _⟩ => show win0_3.index t 0 * 1024 + 1 * ((i 0).val % 1024) = (i 0).val; rw [(index3 t).1]; omega
    | ⟨1, _⟩ => show win0_3.index t 1 * 512 + 1 * ((i 1).val % 512) = (i 1).val; rw [(index3 t).2]; omega
  rw [← e]
  exact View.emb_mem_set _ _

/-- So the result array ends holding the reference's value. -/
theorem final (c : Dev nD) : (dats m 0 c).arrAt 3 cfg0.N = G m c :=
  (dats m 0 c).arrAt_eq_of_cover 3 (G m c) (fun t _ => flushed_eq m c t) cover

/-- The reference runs, keeps its arguments and leaves every semaphore at zero. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The kernel and the reference leave the same result on the same arguments. -/
theorem algebraic : Cert.algebraic_Kernel4Ideal_Reference4Ideal := fun m g m' g' _ hag =>
  ⟨fun c => G m c,
    (θ_run defs _ _).mono (fun r h c => ⟨(h c).1.trans (final m c), (h c).2⟩) (Value.run_blocks m g),
    (θ_run Cert.Reference4Ideal.defs _ _).mono (fun r h c => ⟨(h c).1.trans ((Cert.Reference4Ideal.Read.val_main_v19_eq _ _ _).trans (by
      rw [(hag c).1, (hag c).2.1, (hag c).2.2])), (h c).2⟩) (Cert.Reference4Ideal.Value.run m' g')⟩

end Cert.NormedOdd
-- ==== Proof.ProjectTwo.lean ====
/-
  The output projection with its residual, two inputs side by side: `out = x + oa · W[:1024] + ob · W[1024:]` over 8192 rows,
  512 rows a grid point. The reference lays the two inputs side by side and multiplies once; the sum over the 2048 columns
  is the sum over the first 1024 plus the sum over the rest.
-/
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Claim
public import Idealize.ShloMosaic.Lib.Quiescent

@[expose] public section

set_option maxRecDepth 16384

noncomputable section

namespace Cert.ProjectTwo

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Two and three zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The four arguments on core `c`, as functions of their indices. -/
abbrev argA (c : Dev nD) : Vec Ideal S2x4096x1024 .f32 := m ((c : Thread nD τ).loc main_arg0)
abbrev argB (c : Dev nD) : Vec Ideal S2x4096x1024 .f32 := m ((c : Thread nD τ).loc main_arg1)
abbrev argW (c : Dev nD) : Vec Ideal S2x2048x2048 .f32 := m ((c : Thread nD τ).loc main_arg2)
abbrev argX (c : Dev nD) : Vec Ideal S2x4096x2048 .f32 := m ((c : Thread nD τ).loc main_arg3)

/-- The first input's rows as the region finds them: the argument's two batches laid one after the other. -/
theorem V_a (c : Dev nD) : @Eq (FVec Ideal S8192x1024 .bf16) (V m c main_v1)
    (truncf .bf16 (shapeCast S8192x1024 (argA m c) shapeCasts_S2x4096x1024_S8192x1024) bitsLt_bf16_f32) := by
  show StableHlo.after hostOps0 _ (Proc.devRef .tc main_v1) = _
  after_results; rfl

/-- The second input's rows as the region finds them. -/
theorem V_b (c : Dev nD) : @Eq (FVec Ideal S8192x1024 .bf16) (V m c main_v3)
    (truncf .bf16 (shapeCast S8192x1024 (argB m c) shapeCasts_S2x4096x1024_S8192x1024) bitsLt_bf16_f32) := by
  show StableHlo.after hostOps0 _ (Proc.devRef .tc main_v3) = _
  after_results; rfl

/-- The weights as the region finds them. -/
theorem V_w (c : Dev nD) : @Eq (FVec Ideal S2x2048x2048 .bf16) (V m c main_v4) (truncf .bf16 (argW m c) bitsLt_bf16_f32) := by
  show StableHlo.after hostOps0 _ (Proc.devRef .tc main_v4) = _
  after_results

/-- The residual rows as the region finds them. -/
theorem V_x (c : Dev nD) : (V m c main_v5 : Vec Ideal S8192x2048 .f32)
    = shapeCast S8192x2048 (argX m c) shapeCasts_S2x4096x2048_S8192x2048 := by
  show StableHlo.after hostOps0 _ (Proc.devRef .tc main_v5) = _
  after_results; rfl

/-- What one point's body leaves in its output block: the residual block plus the two products. -/
theorem out_apply (x0 x1 : Vec Ideal S512x1024 .bf16) (x2 x3 : Vec Ideal S1x1024x2048 .bf16) (x4 : Vec Ideal S512x2048 .f32) (r : Fin 512) (l : Fin 2048) :
    out0_5 x0 x1 x2 x3 x4 (ix2 r l) = x4 (ix2 r l) + ∑ k : Fin 1024, x0 (ix2 r k) * x2 (ix3 0 k l) + ∑ k : Fin 1024, x1 (ix2 r k) * x3 (ix3 0 k l) := by
  unfold out0_5
  rw [View.canon_unit_zero hz2]
  simp only [View.ld_unit_zero (S := S512x1024) hz2, View.ld_unit_zero (S := S512x2048) hz2, View.ld_unit_zero (S := S1x1024x2048) hz3]
  pointwise [k0_pay1]

/-- The array row of block row `r` at point `t`. -/
def row (t : Fin cfg0.N) (r : Fin 512) : Fin 8192 := ⟨t.val * 512 + r.val, by have := t.isLt; have : cfg0.N = 16 := N_0; omega⟩

/-- The block indices of the row windows at each point … -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
/-- … and of the two weight windows: the upper and the lower half of the first layer's matrix. -/
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = 0 ∧ win0_3.index t 1 = 1 ∧ win0_3.index t 2 = 0 :=
  (by decide +kernel : ∀ t : Fin grid0.N, win0_3.index t 0 = 0 ∧ win0_3.index t 1 = 1 ∧ win0_3.index t 2 = 0)

/-- Column `k` of the first and of the second half. -/
abbrev lo (k : Fin 1024) : Fin 2048 := ⟨k.val, by omega⟩
abbrev hi (k : Fin 1024) : Fin 2048 := ⟨1024 + k.val, by omega⟩

/-- A sum over 2048 is the sum over the first 1024 plus the sum over the rest. -/
theorem sum_halves (f : Fin 2048 → EReal) : ∑ k, f k = ∑ k, f (lo k) + ∑ k, f (hi k) :=
  Fin.sum_univ_add (a := 1024) (b := 1024) f

/-- The block of first-input rows at point `t`. -/
theorem iblk0 (c : Dev nD) (t : Fin cfg0.N) (r : Fin 512) (k : Fin 1024) :
    (iblk m c 0 t : Vec Ideal S512x1024 .bf16) (ix2 r k) = (V m c main_v1 : Vec Ideal S8192x1024 .bf16) (ix2 (row t r) k) := by
  unfold iblk
  rw [View.read_apply]
  show V m c main_v1 _ = _
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

/-- The block of second-input rows at point `t`. -/
theorem iblk1 (c : Dev nD) (t : Fin cfg0.N) (r : Fin 512) (k : Fin 1024) :
    (iblk m c 1 t : Vec Ideal S512x1024 .bf16) (ix2 r k) = (V m c main_v3 : Vec Ideal S8192x1024 .bf16) (ix2 (row t r) k) := by
  unfold iblk
  rw [View.read_apply]
  show V m c main_v3 _ = _
  congr 1
  funext a
  apply Fin.ext
  match a with
  | ⟨0, _⟩ => show win0_1.index t 0 * 512 + 1 * r.val = t.val * 512 + r.val; rw [(index1 t).1]; omega
  | ⟨1, _⟩ => show win0_1.index t 1 * 1024 + 1 * k.val = k.val; rw [(index1 t).2]; omega

/-- The upper weight block, at every point. -/
theorem iblk2 (c : Dev nD) (t : Fin cfg0.N) (k : Fin 1024) (l : Fin 2048) :
    (iblk m c 2 t : Vec Ideal S1x1024x2048 .bf16) (ix3 0 k l) = (V m c main_v4 : Vec Ideal S2x2048x2048 .bf16) (ix3 0 (lo k) l) := by
  unfold iblk
  rw [View.read_apply]
  show V m c main_v4 _ = _
  congr 1
  funext a
  apply Fin.ext
  match a with
  | ⟨0, _⟩ => show win0_2.index t 0 * 1 + 1 * 0 = 0; rw [(index2 t).1]
  | ⟨1, _⟩ => show win0_2.index t 1 * 1024 + 1 * k.val = k.val; rw [(index2 t).2.1]; omega
  | ⟨2, _⟩ => show win0_2.index t 2 * 2048 + 1 * l.val = l.val; rw [(index2 t).2.2]; omega

/-- The lower weight block, at every point. -/
theorem iblk3 (c : Dev nD) (t : Fin cfg0.N) (k : Fin 1024) (l : Fin 2048) :
    (iblk m c 3 t : Vec Ideal S1x1024x2048 .bf16) (ix3 0 k l) = (V m c main_v4 : Vec Ideal S2x2048x2048 .bf16) (ix3 0 (hi k) l) := by
  unfold iblk
  rw [View.read_apply]
  show V m c main_v4 _ = _
  congr 1
  funext a
  apply Fin.ext
  match a with
  | ⟨0, _⟩ => show win0_3.index t 0 * 1 + 1 * 0 = 0; rw [(index3 t).1]
  | ⟨1, _⟩ => show win0_3.index t 1 * 1024 + 1 * k.val = 1024 + k.val; rw [(index3 t).2.1]; omega
  | ⟨2, _⟩ => show win0_3.index t 2 * 2048 + 1 * l.val = l.val; rw [(index3 t).2.2]; omega

/-- The block of residual rows at point `t`. -/
theorem iblk4 (c : Dev nD) (t : Fin cfg0.N) (r : Fin 512) (k : Fin 2048) :
    (iblk m c 4 t : Vec Ideal S512x2048 .f32) (ix2 r k) = (V m c main_v5 : Vec Ideal S8192x2048 .f32) (ix2 (row t r) k) := by
  unfold iblk
  rw [View.read_apply]
  show V m c main_v5 _ = _
  congr 1
  funext a
  apply Fin.ext
  match a with
  | ⟨0, _⟩ => show win0_4.index t 0 * 512 + 1 * r.val = t.val * 512 + r.val; rw [(index4 t).1]; omega
  | ⟨1, _⟩ => show win0_4.index t 1 * 2048 + 1 * k.val = k.val; rw [(index4 t).2]; omega

/-- The result both programs leave: the reference's value of the arguments. -/
abbrev G (c : Dev nD) : Vec Ideal S8192x2048 .f32 := Cert.Reference5Ideal.Read.val_main_v5 (F := Ideal) (argA m c) (argB m c) (argW m c) (argX m c)

/-- The two inputs side by side, at a column of the first and of the second half. -/
theorem cat_lo (c : Dev nD) (b : Fin 2) (n : Fin 4096) (k : Fin 1024) :
    Cert.Reference5Ideal.Read.val_main_v0 (F := Ideal) (argA m c) (argB m c) (ix3 b n (lo k)) = argA m c (ix3 b n k) := by
  unfold Cert.Reference5Ideal.Read.val_main_v0
  exact concatenate_pair_apply_left (t := S2x4096x2048) (s₁ := S2x4096x1024) (s₂ := S2x4096x1024) 2 (argA m c) (argB m c) _ (ix3 b n (lo k)) rfl (ix3 b n k)
    (fun d => match d with | ⟨0, _⟩ => rfl | ⟨1, _⟩ => rfl | ⟨2, _⟩ => rfl)
theorem cat_hi (c : Dev nD) (b : Fin 2) (n : Fin 4096) (k : Fin 1024) :
    Cert.Reference5Ideal.Read.val_main_v0 (F := Ideal) (argA m c) (argB m c) (ix3 b n (hi k)) = argB m c (ix3 b n k) := by
  unfold Cert.Reference5Ideal.Read.val_main_v0
  exact concatenate_pair_apply_right (t := S2x4096x2048) (s₁ := S2x4096x1024) (s₂ := S2x4096x1024) 2 (argA m c) (argB m c) _ (ix3 b n (hi k)) rfl rfl (ix3 b n k)
    (fun d hd => match d, hd with | ⟨0, _⟩, _ => rfl | ⟨1, _⟩, _ => rfl | ⟨2, _⟩, hd => absurd rfl hd) (by show k.val + 1024 = 1024 + k.val; omega)

/-- The reference's value, read at a row and a column. -/
theorem G_apply (c : Dev nD) (r : Fin 8192) (l : Fin 2048) : G m c (ix2 r l)
    = shapeCast S8192x2048 (argX m c) shapeCasts_S2x4096x2048_S8192x2048 (ix2 r l)
      + ∑ k : Fin 1024, shapeCast S8192x1024 (argA m c) shapeCasts_S2x4096x1024_S8192x1024 (ix2 r k) * argW m c (ix3 0 (lo k) l)
      + ∑ k : Fin 1024, shapeCast S8192x1024 (argB m c) shapeCasts_S2x4096x1024_S8192x1024 (ix2 r k) * argW m c (ix3 0 (hi k) l) := by
  unfold G
  pointwise [Cert.Reference5Ideal.Read.val_main_v5, Cert.Reference5Ideal.Read.val_main_v4, Cert.Reference5Ideal.Read.val_main_v3, Cert.Reference5Ideal.Read.val_main_v2, Cert.Reference5Ideal.Read.val_main_v1]
  rw [sum_halves]
  simp only [cat_lo, cat_hi, add_assoc]

/-- What point `t` writes back is its block of the reference's value. -/
theorem flushed_eq (c : Dev nD) (t : Fin cfg0.N) : (dats m 0 c).flushed 5 t = ((cfg0.win 5).blk t).view.read (Elt Ideal) (G m c) := by
  rw [Value.flushed5]
  funext y
  obtain ⟨r, l, rfl⟩ : ∃ (r : Fin 512) (l : Fin 2048), y = ix2 r l := ⟨y 0, y 1, eq_ix2 y⟩
  rw [View.read_apply]
  show out0_5 _ _ _ _ _ (ix2 r l) = G m c _
  rw [out_apply, show ((cfg0.win 5).blk t).view.emb (ix2 r l) = (ix2 (row t r) l : S8192x2048.Idx) from by
    funext a
    apply Fin.ext
    match a with
    | ⟨0, _⟩ => show win0_5.index t 0 * 512 + 1 * r.val = t.val * 512 + r.val; rw [(index5 t).1]; omega
    | ⟨1, _⟩ => show win0_5.index t 1 * 2048 + 1 * l.val = l.val; rw [(index5 t).2]; omega]
  rw [G_apply]
  simp only [iblk0, iblk1, iblk2, iblk3, iblk4, V_a, V_b, V_w, V_x]
  rfl

/-- Every element of the result array is in some point's block. -/
theorem cover (i : S8192x2048.Idx) : ∃ t : Fin cfg0.N, (cfg0.win 5).flush t = true ∧ i ∈ ((cfg0.win 5).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  refine ⟨t, flush0_5 t, ?_⟩
  have e : @Eq S8192x2048.Idx (((cfg0.win 5).blk t).view.emb (ix2 (⟨(i 0).val % 512, by omega⟩ : Fin 512) (i 1) : S512x2048.Idx)) i := by
    funext a
    apply Fin.ext
    match a with
    | ⟨0, _⟩ => show win0_5.index t 0 * 512 + 1 * ((i 0).val % 512) = (i 0).val; rw [(index5 t).1]; omega
    | ⟨1, _⟩ => show win0_5.index t 1 * 2048 + 1 * (i 1).val = (i 1).val; rw [(index5 t).2]; omega
  rw [← e]
  exact View.emb_mem_set _ _

/-- So the result array ends holding the reference's value. -/
theorem final (c : Dev nD) : (dats m 0 c).arrAt 5 cfg0.N = G m c :=
  (dats m 0 c).arrAt_eq_of_cover 5 (G m c) (fun t _ => flushed_eq m c t) cover

/-- The reference runs, keeps its arguments and leaves every semaphore at zero. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The kernel and the reference leave the same result on the same arguments. -/
theorem algebraic : Cert.algebraic_Kernel5Ideal_Reference5Ideal := fun m g m' g' _ hag =>
  ⟨fun c => G m c,
    (θ_run defs _ _).mono (fun r h c => ⟨(h c).1.trans (final m c), (h c).2⟩) (Value.run_blocks m g),
    (θ_run Cert.Reference5Ideal.defs _ _).mono (fun r h c => ⟨(h c).1.trans ((Cert.Reference5Ideal.Read.val_main_v5_eq _ _ _ _).trans (by
      rw [(hag c).1, (hag c).2.1, (hag c).2.2.1, (hag c).2.2.2])), (h c).2⟩) (Cert.Reference5Ideal.Value.run m' g')⟩

end Cert.ProjectTwo
-- ==== Proof.Project.lean ====
/-
  The output projection with its residual, one input: `out = x + o · W` over 8192 rows, 512 rows a grid point, the whole
  2048 × 2048 weight in every point's window. The kernel's result array is, element by element, the reference's.
-/
module

public import proofs.«01_k».proof.Defs
public import proofs.«01_k».proof.Proof.Gen.Kernel6Ideal.Value
public import proofs.«01_k».proof.Proof.Gen.Reference6Ideal.Read
public import Idealize.ShloMosaic.Lib.Pointwise
public import Idealize.ShloMosaic.Lib.Claim
public import Idealize.ShloMosaic.Lib.Quiescent

@[expose] public section

set_option maxRecDepth 16384

noncomputable section

namespace Cert.Project

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Two and three zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The three arguments on core `c`, as functions of their indices. -/
abbrev argO (c : Dev nD) : Vec Ideal S2x4096x2048 .f32 := m ((c : Thread nD τ).loc main_arg0)
abbrev argW (c : Dev nD) : Vec Ideal S2x2048x2048 .f32 := m ((c : Thread nD τ).loc main_arg1)
abbrev argX (c : Dev nD) : Vec Ideal S2x4096x2048 .f32 := m ((c : Thread nD τ).loc main_arg2)

/-- The attention's output rows as the region finds them: the argument's two batches laid one after the other. -/
theorem V_o (c : Dev nD) : @Eq (FVec Ideal S8192x2048 .bf16) (V m c main_v1)
    (truncf .bf16 (shapeCast S8192x2048 (argO m c) shapeCasts_S2x4096x2048_S8192x2048) bitsLt_bf16_f32) := by
  show StableHlo.after hostOps0 _ (Proc.devRef .tc main_v1) = _
  after_results; rfl

/-- The weights as the region finds them. -/
theorem V_w (c : Dev nD) : @Eq (FVec Ideal S2x2048x2048 .bf16) (V m c main_v2) (truncf .bf16 (argW m c) bitsLt_bf16_f32) := by
  show StableHlo.after hostOps0 _ (Proc.devRef .tc main_v2) = _
  after_results

/-- The residual rows as the region finds them. -/
theorem V_x (c : Dev nD) : (V m c main_v3 : Vec Ideal S8192x2048 .f32)
    = shapeCast S8192x2048 (argX m c) shapeCasts_S2x4096x2048_S8192x2048 := by
  show StableHlo.after hostOps0 _ (Proc.devRef .tc main_v3) = _
  after_results; rfl

/-- What one point's body leaves in its output block: the residual block plus the product. -/
theorem out_apply (x0 : Vec Ideal S512x2048 .bf16) (x1 : Vec Ideal S1x2048x2048 .bf16) (x2 : Vec Ideal S512x2048 .f32) (r : Fin 512) (l : Fin 2048) :
    out0_3 x0 x1 x2 (ix2 r l) = x2 (ix2 r l) + ∑ k : Fin 2048, x0 (ix2 r k) * x1 (ix3 0 k l) := by
  unfold out0_3
  rw [View.canon_unit_zero hz2]
  simp only [View.ld_unit_zero (S := S512x2048) hz2, View.ld_unit_zero (S := S1x2048x2048) hz3]
  pointwise [k0_pay1]

/-- The array row of block row `r` at point `t`. -/
def row (t : Fin cfg0.N) (r : Fin 512) : Fin 8192 := ⟨t.val * 512 + r.val, by have := t.isLt; have : cfg0.N = 16 := N_0; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- The block of attention rows at point `t`. -/
theorem iblk0 (c : Dev nD) (t : Fin cfg0.N) (r : Fin 512) (k : Fin 2048) :
    (iblk m c 0 t : Vec Ideal S512x2048 .bf16) (ix2 r k) = (V m c main_v1 : Vec Ideal S8192x2048 .bf16) (ix2 (row t r) k) := by
  unfold iblk
  rw [View.read_apply]
  show V m c main_v1 _ = _
  congr 1
  funext a
  apply Fin.ext
  match a with
  | ⟨0, _⟩ => show win0_0.index t 0 * 512 + 1 * r.val = t.val * 512 + r.val; rw [(index0 t).1]; omega
  | ⟨1, _⟩ => show win0_0.index t 1 * 2048 + 1 * k.val = k.val; rw [(index0 t).2]; omega

/-- The weight block: the first layer's whole matrix, at every point. -/
theorem iblk1 (c : Dev nD) (t : Fin cfg0.N) (k l : Fin 2048) :
    (iblk m c 1 t : Vec Ideal S1x2048x2048 .bf16) (ix3 0 k l) = (V m c main_v2 : Vec Ideal S2x2048x2048 .bf16) (ix3 0 k l) := by
  unfold iblk
  rw [View.read_apply]
  show V m c main_v2 _ = _
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2.1]; omega
  | ⟨2, _⟩ => show win0_1.index t 2 * 2048 + 1 * l.val = l.val; rw [(index1 t).2.2]; omega

/-- The block of residual rows at point `t`. -/
theorem iblk2 (c : Dev nD) (t : Fin cfg0.N) (r : Fin 512) (k : Fin 2048) :
    (iblk m c 2 t : Vec Ideal S512x2048 .f32) (ix2 r k) = (V m c main_v3 : Vec Ideal S8192x2048 .f32) (ix2 (row t r) k) := by
  unfold iblk
  rw [View.read_apply]
  show V m c main_v3 _ = _
  congr 1
  funext a
  apply Fin.ext
  match a with
  | ⟨0, _⟩ => show win0_2.index t 0 * 512 + 1 * r.val = t.val * 512 + r.val; rw [(index2 t).1]; omega
  | ⟨1, _⟩ => show win0_2.index t 1 * 2048 + 1 * k.val = k.val; rw [(index2 t).2]; omega

/-- The result both programs leave: the reference's value of the arguments. -/
abbrev G (c : Dev nD) : Vec Ideal S8192x2048 .f32 := Cert.Reference6Ideal.Read.val_main_v4 (F := Ideal) (argO m c) (argW m c) (argX m c)

/-- The reference's value, read at a row and a column. -/
theorem G_apply (c : Dev nD) (r : Fin 8192) (l : Fin 2048) : G m c (ix2 r l)
    = shapeCast S8192x2048 (argX m c) shapeCasts_S2x4096x2048_S8192x2048 (ix2 r l)
      + ∑ k : Fin 2048, shapeCast S8192x2048 (argO m c) shapeCasts_S2x4096x2048_S8192x2048 (ix2 r k) * argW m c (ix3 0 k l) := by
  unfold G
  pointwise [Cert.Reference6Ideal.Read.val_main_v4, Cert.Reference6Ideal.Read.val_main_v3, Cert.Reference6Ideal.Read.val_main_v2, Cert.Reference6Ideal.Read.val_main_v1, Cert.Reference6Ideal.Read.val_main_v0]

/-- What point `t` writes back is its block of the reference's value. -/
theorem flushed_eq (c : Dev nD) (t : Fin cfg0.N) : (dats m 0 c).flushed 3 t = ((cfg0.win 3).blk t).view.read (Elt Ideal) (G m c) := by
  rw [Value.flushed3]
  funext y
  obtain ⟨r, l, rfl⟩ : ∃ (r : Fin 512) (l : Fin 2048), y = ix2 r l := ⟨y 0, y 1, eq_ix2 y⟩
  rw [View.read_apply]
  show out0_3 _ _ _ (ix2 r l) = G m c _
  rw [out_apply, show ((cfg0.win 3).blk t).view.emb (ix2 r l) = (ix2 (row t r) l : S8192x2048.Idx) from by
    funext a
    apply Fin.ext
    match a with
    | ⟨0, _⟩ => show win0_3.index t 0 * 512 + 1 * r.val = t.val * 512 + r.val; rw [(index3 t).1]; omega
    | ⟨1, _⟩ => show win0_3.index t 1 * 2048 + 1 * l.val = l.val; rw [(index3 t).2]; omega]
  rw [G_apply]
  simp only [iblk0, iblk1, iblk2, V_o, V_w, V_x]
  rfl

/-- Every element of the result array is in some point's block. -/
theorem cover (i : S8192x2048.Idx) : ∃ t : Fin cfg0.N, (cfg0.win 3).flush t = true ∧ i ∈ ((cfg0.win 3).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  refine ⟨t, flush0_3 t, ?_⟩
  have e : @Eq S8192x2048.Idx (((cfg0.win 3).blk t).view.emb (ix2 (⟨(i 0).val % 512, by omega⟩ : Fin 512) (i 1) : S512x2048.Idx)) i := by
    funext a
    apply Fin.ext
    match a with
    | ⟨0, _⟩ => show win0_3.index t 0 * 512 + 1 * ((i 0).val % 512) = (i 0).val; rw [(index3 t).1]; omega
    | ⟨1, _⟩ => show win0_3.index t 1 * 2048 + 1 * (i 1).val = (i 1).val; rw [(index3 t).2]; omega
  rw [← e]
  exact View.emb_mem_set _ _

/-- So the result array ends holding the reference's value. -/
theorem final (c : Dev nD) : (dats m 0 c).arrAt 3 cfg0.N = G m c :=
  (dats m 0 c).arrAt_eq_of_cover 3 (G m c) (fun t _ => flushed_eq m c t) cover

/-- The reference runs, keeps its arguments and leaves every semaphore at zero. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The kernel and the reference leave the same result on the same arguments. -/
theorem algebraic : Cert.algebraic_Kernel6Ideal_Reference6Ideal := fun m g m' g' _ hag =>
  ⟨fun c => G m c,
    (θ_run defs _ _).mono (fun r h c => ⟨(h c).1.trans (final m c), (h c).2⟩) (Value.run_blocks m g),
    (θ_run Cert.Reference6Ideal.defs _ _).mono (fun r h c => ⟨(h c).1.trans ((Cert.Reference6Ideal.Read.val_main_v4_eq _ _ _).trans (by
      rw [(hag c).1, (hag c).2.1, (hag c).2.2])), (h c).2⟩) (Cert.Reference6Ideal.Value.run m' g')⟩

end Cert.Project
-- ==== Proof.PrepMath.lean ====
/-
  The arithmetic of the keys' and values' preparation: the norm of a row of 128 numbers, the smooth gate between the two
  layers of the block summary, and the sum over a flattened block of 32 rows of 128 numbers taken row by row.
-/
module

public import Idealize.ShloMosaic.Lib.Pointwise
public import Idealize.ShloMosaic.PureOps.Ideal

@[expose] public section

noncomputable section

namespace Cert.Prep

open Idealize.ShloMosaic

/-- Entry `d` of a normalised row of 128 numbers: `x d`, times one over the root of the row's mean square plus a small
    constant, times the gain `w d`. The two words are the single-precision numbers 128 and 1e-6. -/
def rms (x w : Fin 128 → EReal) (d : Fin 128) : EReal :=
  x d * Ideal.rsqrt (Ideal.div (∑ j : Fin 128, x j * x j) (Ideal.ofBits FTy.f32 0x43000000#32) + Ideal.ofBits FTy.f32 0x358637BD#32) * w d

/-- The gate as the kernel computes it: half of `x` times one plus the hyperbolic tangent of a cubic in `x`. -/
def gelu (x : EReal) : EReal :=
  Ideal.ofBits FTy.f32 0x3F000000#32 * x
    * (Ideal.ofBits FTy.f32 0x3F800000#32
      + Ideal.tanh (Ideal.ofBits FTy.f32 0x3F4C422A#32 * (x + Ideal.ofBits FTy.f32 0x3D372713#32 * x * x * x)))

/-- The reference multiplies the same factors in another order. -/
theorem gelu_eq (x : EReal) :
    x * (Ideal.ofBits FTy.f32 0x3F000000#32
      * (Ideal.ofBits FTy.f32 0x3F800000#32
        + Ideal.tanh (Ideal.ofBits FTy.f32 0x3F4C422A#32 * (x + Ideal.ofBits FTy.f32 0x3D372713#32 * (x * x * x))))) = gelu x := by
  unfold gelu
  rw [← mul_assoc, mul_comm x (Ideal.ofBits FTy.f32 0x3F000000#32), ← mul_assoc (Ideal.ofBits FTy.f32 0x3D372713#32), ← mul_assoc (Ideal.ofBits FTy.f32 0x3D372713#32)]

/-- Position `k` of row `j` in the flattened block. -/
def flat (j : Fin 32) (k : Fin 128) : Fin 4096 := ⟨j.val * 128 + k.val, by have := j.isLt; have := k.isLt; omega⟩

/-- A sum over the flattened block is the sum over its rows of the sums over each row. -/
theorem sum_flat (f : Fin 4096 → EReal) : ∑ q : Fin 4096, f q = ∑ j : Fin 32, ∑ k : Fin 128, f (flat j k) := by
  rw [← Fintype.sum_prod_type' (f := fun (j : Fin 32) (k : Fin 128) => f (flat j k))]
  refine (Fintype.sum_equiv (finProdFinEquiv (m := 32) (n := 128)) _ _ fun x => ?_).symm
  refine congrArg f (Fin.ext ?_)
  show x.1.val * 128 + x.2.val = x.2.val + 128 * x.1.val
  omega

/-- Entry `c` of the block summary: the block's rows `a` (the offsets added) through the first layer `w`, the gate, and the
    second layer's column `u`. -/
def summary (a : Fin 32 → Fin 128 → EReal) (w : Fin 32 → Fin 128 → Fin 128 → EReal) (u : Fin 128 → Fin 128 → EReal) (c : Fin 128) : EReal :=
  ∑ l : Fin 128, gelu (∑ j : Fin 32, ∑ k : Fin 128, a j k * w j k l) * u l c

end Cert.Prep
-- ==== Proof.PrepRef.lean ====
/-
  The reference's keys and values of one odd layer's prompt, read at an index: the normed keys, the window's last keys and
  the block summaries, each in terms of the projection's columns.
-/
module

public import proofs.«01_k».proof.Proof.PrepMath
public import proofs.«01_k».proof.Proof.Gen.Reference7Ideal.Read
public import Idealize.ShloMosaic.Lib.Pointwise

@[expose] public section

set_option maxRecDepth 16384

noncomputable section

namespace Cert.Prep

open Cert.Reference7Ideal Cert.Reference7Ideal.Read Idealize.ShloMosaic Idealize.ShloMosaic.TcCoe

/-- Lane `d` of head `h` in the 512 columns of one kind, which start at column `at0`: 2048 for the summary keys, 2560 for the
    summary values, 3072 for the selected keys, 4096 for the window keys. -/
def kindCol (at0 : ℕ) (ha : at0 ≤ 4608) (h : Fin 4) (d : Fin 128) : Fin 5168 := ⟨at0 + (h.val * 128 + d.val), by omega⟩

/-- Row `j` of block `n`. -/
def blockRow (n : Fin 128) (j : Fin 32) : Fin 4096 := ⟨n.val * 32 + j.val, by omega⟩

variable (x0 : Vec Ideal S2x4096x5168 .f32) (x1 : Vec Ideal S3x128 .f32) (x2 x3 : Vec Ideal S32x128 .f32)
  (x4 : Vec Ideal S4096x128 .f32) (x5 : Vec Ideal S128x128 .f32) (x6 : Vec Ideal S4096x128 .f32) (x7 : Vec Ideal S128x128 .f32)

/-- One head's row of one kind. -/
def headRow (b : Fin 2) (at0 : ℕ) (ha : at0 ≤ 4608) (h : Fin 4) (r : Fin 4096) (d : Fin 128) : EReal := x0 (ix3 b r (kindCol at0 ha h d))

/-- The block's rows with the position offsets added, and the first layer's weights by row of the block. -/
def shifted (p : Vec Ideal S32x128 .f32) (b : Fin 2) (at0 : ℕ) (ha : at0 ≤ 4608) (h : Fin 4) (n : Fin 128) (j : Fin 32) (k : Fin 128) : EReal :=
  headRow x0 b at0 ha h (blockRow n j) k + p (ix2 j k)
def layer (w : Vec Ideal S4096x128 .f32) (j : Fin 32) (k l : Fin 128) : EReal := w (ix2 (flat j k) l)

set_option maxHeartbeats 2000000 in
/-- The selected keys, normed. -/
theorem ref_ks (b : Fin 2) (r : Fin 4096) (h : Fin 4) (d : Fin 128) :
    val_main_v25 (F := Ideal) x0 x1 (ix4 b r h d) = rms (headRow x0 b 3072 (by decide) h r) (fun k => x1 (ix2 1 k)) d := by
  pointwise [val_main_v25, val_main_v22, val_main_v10, val_main_v3, val_main_v21, val_main_v20, val_main_v19, val_main_v17, val_main_v15, val_main_v14, val_main_v13, val_main_cst, val_main_v16, val_main_cst_0, val_main_v18, val_main_cst_1, val_main_v24, val_main_v23, val_main_v12, val_main_v11]
  rfl

set_option maxHeartbeats 2000000 in
/-- The window keys, normed. -/
theorem ref_kw (b : Fin 2) (r : Fin 4096) (h : Fin 4) (d : Fin 128) :
    val_main_v41 (F := Ideal) x0 x1 (ix4 b r h d) = rms (headRow x0 b 4096 (by decide) h r) (fun k => x1 (ix2 2 k)) d := by
  pointwise [val_main_v41, val_main_v38, val_main_v26, val_main_v5, val_main_v37, val_main_v36, val_main_v35, val_main_v33, val_main_v31, val_main_v30, val_main_v29, val_main_cst_2, val_main_v32, val_main_cst_3, val_main_v34, val_main_cst_4, val_main_v40, val_main_v39, val_main_v28, val_main_v27]
  rfl

set_option maxHeartbeats 2000000 in
/-- The third result: head `l / 128`, lane `l % 128`. -/
theorem ref_ksf (b : Fin 2) (r : Fin 4096) (l : Fin 512) : val_main_v104 (F := Ideal) x0 x1 (ix3 b r l)
    = rms (headRow x0 b 3072 (by decide) ⟨l.val / 128, by omega⟩ r) (fun k => x1 (ix2 1 k)) ⟨l.val % 128, by omega⟩ := by
  rw [← ref_ks]
  pointwise [val_main_v104]

set_option maxHeartbeats 2000000 in
/-- The fourth result: the last 512 rows. -/
theorem ref_kwf (b : Fin 2) (r : Fin 512) (l : Fin 512) : val_main_v105 (F := Ideal) x0 x1 (ix3 b r l)
    = rms (headRow x0 b 4096 (by decide) ⟨l.val / 128, by omega⟩ ⟨3584 + r.val, by omega⟩) (fun k => x1 (ix2 2 k)) ⟨l.val % 128, by omega⟩ := by
  rw [← ref_kw]
  pointwise [val_main_v105, val_main_v101]

/-- The reference's gate of an array, at an index. -/
theorem gate_array (b : Fin 2) (n : Fin 128) (h : Fin 4) (l : Fin 128) (y : FVec Ideal S2x128x4x128 .f32) :
    mulf y (mulf (broadcastInDim S2x128x4x128 ![] Gen.bcast_S_S2x128x4x128 (constant S_ .f32 0x3F000000#32))
      (addf (broadcastInDim S2x128x4x128 ![] Gen.bcast_S_S2x128x4x128 (constant S_ .f32 0x3F800000#32))
        (Host.tanh (mulf (broadcastInDim S2x128x4x128 ![] Gen.bcast_S_S2x128x4x128 (constant S_ .f32 0x3F4C422A#32))
          (addf y (mulf (broadcastInDim S2x128x4x128 ![] Gen.bcast_S_S2x128x4x128 (constant S_ .f32 0x3D372713#32)) (mulf (mulf y y) y))))))) (ix4 b n h l) = gelu (y (ix4 b n h l)) := by
  rw [← gelu_eq]
  pointwise []

/-- The position offsets added to the rows of each block, at an index. -/
theorem shift_array (b : Fin 2) (n : Fin 128) (j : Fin 32) (h : Fin 4) (k : Fin 128) (y : FVec Ideal S2x4096x4x128 .f32) (p : FVec Ideal S32x128 .f32) :
    addf (shapeCast S2x128x32x4x128 y Gen.shapeCasts_S2x4096x4x128_S2x128x32x4x128)
      (broadcastInDim S2x128x32x4x128 ![0, 1, 2, 3, 4] Gen.bcast_S1x1x32x1x128_S2x128x32x4x128_0_1_2_3_4
        (broadcastInDim S1x1x32x1x128 ![2, 4] Gen.bcast_S32x128_S1x1x32x1x128_2_4 p)) (ix5 b n j h k)
      = y (ix4 b (blockRow n j) h k) + p (ix2 j k) := by
  pointwise []
  rfl

/-- The norm of each head's block summary, at an index. -/
theorem norm_array (b : Fin 2) (n : Fin 128) (h : Fin 4) (d : Fin 128) (y : FVec Ideal S2x128x4x128 .f32) (g : FVec Ideal S3x128 .f32) :
    mulf (mulf y (broadcastInDim S2x128x4x128 ![0, 1, 2, 3] Gen.bcast_S2x128x4x1_S2x128x4x128_0_1_2_3
        (Host.rsqrt (addf (Host.divf (broadcastInDim S2x128x4x1 ![0, 1, 2] Gen.bcast_S2x128x4_S2x128x4x1_0_1_2
          (Host.reduceAdd (mulf y y) (constant S_ .f32 0x00000000#32) Gen.reducesTo_S2x128x4x128_S2x128x4_d3 Gen.h_S_)) (broadcastInDim S2x128x4x1 ![] Gen.bcast_S_S2x128x4x1 (constant S_ .f32 0x43000000#32))) (broadcastInDim S2x128x4x1 ![] Gen.bcast_S_S2x128x4x1 (constant S_ .f32 0x358637BD#32))))))
      (broadcastInDim S2x128x4x128 ![0, 1, 2, 3] Gen.bcast_S1x1x1x128_S2x128x4x128_0_1_2_3
        (broadcastInDim S1x1x1x128 ![3] Gen.bcast_S128_S1x1x1x128_3
          (shapeCast S128 (extractStridedSlice S1x128 ![0, 0] g Gen.slices_S3x128_S1x128_0_0) Gen.shapeCasts_S1x128_S128))) (ix4 b n h d)
      = rms (fun k => y (ix4 b n h k)) (fun k => g (ix2 0 k)) d := by
  pointwise []
  rfl

set_option maxHeartbeats 1000000 in
/-- The blocks are whole, so the reference's padding adds nothing. -/
theorem ref_padK (b : Fin 2) (r : Fin 4096) (h : Fin 4) (k : Fin 128) :
    val_main_v42 (F := Ideal) x0 (ix4 b r h k) = headRow x0 b 2048 (by decide) h r k := by
  have e : val_main_v42 (F := Ideal) x0 (ix4 b r h k) = val_main_v8 (F := Ideal) x0 (ix4 b r h k) := by
    pointwise [val_main_v42]
  rw [e]
  pointwise [val_main_v8, val_main_v1]
  rfl

set_option maxHeartbeats 1000000 in
/-- The flattened blocks of the summary keys. -/
theorem ref_flatK (b : Fin 2) (n : Fin 128) (h : Fin 4) (j : Fin 32) (k : Fin 128) :
    val_main_v48 (F := Ideal) x0 x2 (ix4 b n h (flat j k)) = shifted x0 x2 b 2048 (by decide) h n j k := by
  have hj : (flat j k).val / 128 = j.val := by show (j.val * 128 + k.val) / 128 = _; omega
  have hk : (flat j k).val % 128 = k.val := by show (j.val * 128 + k.val) % 128 = _; omega
  have e : val_main_v48 (F := Ideal) x0 x2 (ix4 b n h (flat j k)) = val_main_v46 (F := Ideal) x0 x2 (ix5 b n j h k) := by
    pointwise [val_main_v48, val_main_v47]
    simp only [hj, hk]
  have e' : val_main_v46 (F := Ideal) x0 x2 (ix5 b n j h k) = val_main_v42 (F := Ideal) x0 (ix4 b (blockRow n j) h k) + x2 (ix2 j k) :=
    shift_array b n j h k _ _
  rw [e, e', ref_padK]
  rfl

set_option maxHeartbeats 1000000 in
/-- The first layer. -/
theorem ref_layerK (b : Fin 2) (n : Fin 128) (h : Fin 4) (l : Fin 128) :
    val_main_v49 (F := Ideal) x0 x2 x4 (ix4 b n h l) = ∑ j, ∑ k, shifted x0 x2 b 2048 (by decide) h n j k * layer x4 j k l := by
  pointwise [val_main_v49]
  rw [sum_flat]
  simp only [ref_flatK]
  rfl

set_option maxHeartbeats 1000000 in
/-- The gate. -/
theorem ref_gateK (b : Fin 2) (n : Fin 128) (h : Fin 4) (l : Fin 128) :
    val_main_v62 (F := Ideal) x0 x2 x4 (ix4 b n h l) = gelu (val_main_v49 (F := Ideal) x0 x2 x4 (ix4 b n h l)) :=
  gate_array b n h l _

set_option maxHeartbeats 1000000 in
/-- The gate and the second layer. -/
theorem ref_summaryK (b : Fin 2) (n : Fin 128) (h : Fin 4) (d : Fin 128) :
    val_main_v63 (F := Ideal) x0 x2 x4 x5 (ix4 b n h d) = summary (shifted x0 x2 b 2048 (by decide) h n) (layer x4) (fun l c => x5 (ix2 l c)) d := by
  have e : val_main_v63 (F := Ideal) x0 x2 x4 x5 (ix4 b n h d) = ∑ l, val_main_v62 (F := Ideal) x0 x2 x4 (ix4 b n h l) * x5 (ix2 l d) := by
    pointwise [val_main_v63]
  rw [e]
  simp only [ref_gateK, ref_layerK]
  unfold summary
  with_reducible rfl

set_option maxHeartbeats 1000000 in
/-- The blocks are whole, so the reference's padding adds nothing. -/
theorem ref_padV (b : Fin 2) (r : Fin 4096) (h : Fin 4) (k : Fin 128) :
    val_main_v79 (F := Ideal) x0 (ix4 b r h k) = headRow x0 b 2560 (by decide) h r k := by
  have e : val_main_v79 (F := Ideal) x0 (ix4 b r h k) = val_main_v9 (F := Ideal) x0 (ix4 b r h k) := by
    pointwise [val_main_v79]
  rw [e]
  pointwise [val_main_v9, val_main_v2]
  rfl

set_option maxHeartbeats 1000000 in
/-- The flattened blocks of the summary values. -/
theorem ref_flatV (b : Fin 2) (n : Fin 128) (h : Fin 4) (j : Fin 32) (k : Fin 128) :
    val_main_v85 (F := Ideal) x0 x3 (ix4 b n h (flat j k)) = shifted x0 x3 b 2560 (by decide) h n j k := by
  have hj : (flat j k).val / 128 = j.val := by show (j.val * 128 + k.val) / 128 = _; omega
  have hk : (flat j k).val % 128 = k.val := by show (j.val * 128 + k.val) % 128 = _; omega
  have e : val_main_v85 (F := Ideal) x0 x3 (ix4 b n h (flat j k)) = val_main_v83 (F := Ideal) x0 x3 (ix5 b n j h k) := by
    pointwise [val_main_v85, val_main_v84]
    simp only [hj, hk]
  have e' : val_main_v83 (F := Ideal) x0 x3 (ix5 b n j h k) = val_main_v79 (F := Ideal) x0 (ix4 b (blockRow n j) h k) + x3 (ix2 j k) :=
    shift_array b n j h k _ _
  rw [e, e', ref_padV]
  rfl

set_option maxHeartbeats 1000000 in
/-- The first layer. -/
theorem ref_layerV (b : Fin 2) (n : Fin 128) (h : Fin 4) (l : Fin 128) :
    val_main_v86 (F := Ideal) x0 x3 x6 (ix4 b n h l) = ∑ j, ∑ k, shifted x0 x3 b 2560 (by decide) h n j k * layer x6 j k l := by
  pointwise [val_main_v86]
  rw [sum_flat]
  simp only [ref_flatV]
  rfl

set_option maxHeartbeats 1000000 in
/-- The gate. -/
theorem ref_gateV (b : Fin 2) (n : Fin 128) (h : Fin 4) (l : Fin 128) :
    val_main_v99 (F := Ideal) x0 x3 x6 (ix4 b n h l) = gelu (val_main_v86 (F := Ideal) x0 x3 x6 (ix4 b n h l)) :=
  gate_array b n h l _

set_option maxHeartbeats 1000000 in
/-- The gate and the second layer. -/
theorem ref_summaryV (b : Fin 2) (n : Fin 128) (h : Fin 4) (d : Fin 128) :
    val_main_v100 (F := Ideal) x0 x3 x6 x7 (ix4 b n h d) = summary (shifted x0 x3 b 2560 (by decide) h n) (layer x6) (fun l c => x7 (ix2 l c)) d := by
  have e : val_main_v100 (F := Ideal) x0 x3 x6 x7 (ix4 b n h d) = ∑ l, val_main_v99 (F := Ideal) x0 x3 x6 (ix4 b n h l) * x7 (ix2 l d) := by
    pointwise [val_main_v100]
  rw [e]
  simp only [ref_gateV, ref_layerV]
  unfold summary
  with_reducible rfl

set_option maxHeartbeats 1000000 in
/-- The first result: the keys' summaries, normed. -/
theorem ref_kcmp (b : Fin 2) (h : Fin 4) (n d : Fin 128) : val_main_v102 (F := Ideal) x0 x1 x2 x4 x5 (ix4 b h n d)
    = rms (summary (shifted x0 x2 b 2048 (by decide) h n) (layer x4) (fun l c => x5 (ix2 l c))) (fun k => x1 (ix2 0 k)) d := by
  have e : val_main_v102 (F := Ideal) x0 x1 x2 x4 x5 (ix4 b h n d) = val_main_v78 (F := Ideal) x0 x1 x2 x4 x5 (ix4 b n h d) := by
    pointwise [val_main_v102]
  have e' : val_main_v78 (F := Ideal) x0 x1 x2 x4 x5 (ix4 b n h d)
      = rms (fun k => val_main_v63 (F := Ideal) x0 x2 x4 x5 (ix4 b n h k)) (fun k => x1 (ix2 0 k)) d :=
    norm_array b n h d _ _
  rw [e, e', funext fun k => ref_summaryK x0 x2 x4 x5 b n h k]

/-- The second result: the values' summaries. -/
theorem ref_vcmp (b : Fin 2) (h : Fin 4) (n d : Fin 128) : val_main_v103 (F := Ideal) x0 x3 x6 x7 (ix4 b h n d)
    = summary (shifted x0 x3 b 2560 (by decide) h n) (layer x6) (fun l c => x7 (ix2 l c)) d := by
  have e : val_main_v103 (F := Ideal) x0 x3 x6 x7 (ix4 b h n d) = val_main_v100 (F := Ideal) x0 x3 x6 x7 (ix4 b n h d) := by
    pointwise [val_main_v103]
  rw [e, ref_summaryV]

end Cert.Prep
-- ==== Proof.PrepStep.lean ====
/-
  What one grid point of the keys' and values' preparation leaves in four of its output blocks: the summary keys and
  values of 128 blocks of 32 rows, the normalised selected keys, stored a tile of 128 rows at a time, and the last 512
  normalised window keys.
-/
module

public import proofs.«01_k».proof.Defs
public import proofs.«01_k».proof.Proof.Gen.Kernel7Ideal.Value
public import proofs.«01_k».proof.Proof.PrepMath
public import Idealize.ShloMosaic.Lib.Pointwise

@[expose] public section

set_option maxRecDepth 16384

noncomputable section

namespace Cert.Prep

open Cert.Kernel7Ideal Cert.Kernel7Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The loads -/

/-- Row `n` of each of the 128 blocks of 32 rows. -/
def rows (x : Vec Ideal S4096x128 .f32) (n : ℕ) : Vec Ideal S128x128 .f32 := fun y => x (ix2 ⟨((y 0).val * 32 + n) % 4096, Nat.mod_lt _ (by decide)⟩ (y 1))

/-- Row `n` of the position offsets. -/
def offs (x : Vec Ideal S32x128 .f32) (n : ℕ) : Vec Ideal S1x128 .f32 := fun y => x (ix2 ⟨n % 32, Nat.mod_lt _ (by decide)⟩ (y 1))

/-- Matrix `n` of the first layer. -/
def mat (x : Vec Ideal S32x128x128 .bf16) (n : ℕ) : Vec Ideal S1x128x128 .bf16 := fun y => x (ix3 ⟨n % 32, Nat.mod_lt _ (by decide)⟩ (y 1) (y 2))

/-- Row `n` of the three gains. -/
def gain (x : Vec Ideal S3x128 .f32) (n : Fin 3) : Vec Ideal S1x128 .f32 := fun y => x (ix2 n (y 1))

theorem rd_rows (a : Memref sig .tc .vmem S4096x128 .f32) (ha : a.IsWhole) (x : Vec Ideal S4096x128 .f32) (n : ℕ)
    (inb : ∀ k : Fin S4096x128.rank, S128x128.size k = 0 ∨ (![n, 0] : Fin 2 → ℕ) k + (![32, 1] : Fin 2 → ℕ) k * (S128x128.size k - 1) < S4096x128.size k) :
    View.readAt (Elt Ideal) a.view { off := ![n, 0], size := (no_index S128x128.size), stride := ![32, 1], inb := inb } (ha.unread x) = rows x n := by
  have hn : n + 32 * 127 < 4096 := (inb 0).resolve_left (by decide)
  funext y
  have h0 : (y 0).val < 128 := (y 0).isLt
  show a.view.read (Elt Ideal) (ha.unread x) _ = _
  rw [ha.read_unread]
  refine congrArg x (funext fun k => Fin.ext ?_)
  match k with
  | ⟨0, _⟩ => show n + 32 * (y 0).val = ((y 0).val * 32 + n) % 4096; omega
  | ⟨1, _⟩ => show 0 + 1 * (y 1).val = (y 1).val; omega

theorem rd_offs (a : Memref sig .tc .vmem S32x128 .f32) (ha : a.IsWhole) (x : Vec Ideal S32x128 .f32) (n : ℕ) (inb) :
    View.readAt (Elt Ideal) a.view (Rect.unit (s := S32x128) ![n, 0] (no_index S1x128.size) inb).toLoadRect (ha.unread x) = offs x n := by
  have hn : n + 1 ≤ 32 := inb 0
  funext y
  rw [View.readAt_eq_ld, ha.read_unread]
  refine congrArg x (funext fun k => Fin.ext ?_)
  match k with
  | ⟨0, _⟩ => show n + 1 * (y 0).val = n % 32; have : (y 0).val < 1 := (y 0).isLt; omega
  | ⟨1, _⟩ => show 0 + 1 * (y 1).val = (y 1).val; omega

theorem rd_mat (a : Memref sig .tc .vmem S32x128x128 .bf16) (ha : a.IsWhole) (x : Vec Ideal S32x128x128 .bf16) (n : ℕ) (inb) :
    View.readAt (Elt Ideal) a.view (Rect.unit (s := S32x128x128) ![n, 0, 0] (no_index S1x128x128.size) inb).toLoadRect (ha.unread x) = mat x n := by
  have hn : n + 1 ≤ 32 := inb 0
  funext y
  rw [View.readAt_eq_ld, ha.read_unread]
  refine congrArg x (funext fun k => Fin.ext ?_)
  match k with
  | ⟨0, _⟩ => show n + 1 * (y 0).val = n % 32; have : (y 0).val < 1 := (y 0).isLt; omega
  | ⟨1, _⟩ => show 0 + 1 * (y 1).val = (y 1).val; omega
  | ⟨2, _⟩ => show 0 + 1 * (y 2).val = (y 2).val; omega

theorem rd_gain (a : Memref sig .tc .vmem S3x128 .f32) (ha : a.IsWhole) (x : Vec Ideal S3x128 .f32) (n : Fin 3) (inb) :
    View.readAt (Elt Ideal) a.view (Rect.unit (s := S3x128) ![n.val, 0] (no_index S1x128.size) inb).toLoadRect (ha.unread x) = gain x n := by
  funext y
  rw [View.readAt_eq_ld, ha.read_unread]
  refine congrArg x (funext fun k => Fin.ext ?_)
  match k with
  | ⟨0, _⟩ => show n.val + 1 * (y 0).val = n.val; have : (y 0).val < 1 := (y 0).isLt; omega
  | ⟨1, _⟩ => show 0 + 1 * (y 1).val = (y 1).val; omega

/-- Rows 3584 to 4095. -/
def tail512 (x : Vec Ideal S4096x128 .f32) : Vec Ideal S512x128 .f32 := fun y => x (ix2 ⟨3584 + (y 0).val, by have : (y 0).val < 512 := (y 0).isLt; omega⟩ (y 1))

theorem rd_tail (a : Memref sig .tc .vmem S4096x128 .f32) (ha : a.IsWhole) (x : Vec Ideal S4096x128 .f32) (inb) :
    View.readAt (Elt Ideal) a.view (Rect.unit (s := S4096x128) ![3584, 0] S512x128.size inb).toLoadRect (ha.unread x) = tail512 x := by
  funext y
  rw [View.readAt_eq_ld, ha.read_unread]
  refine congrArg x (funext fun k => Fin.ext ?_)
  match k with
  | ⟨0, _⟩ => show 3584 + 1 * (y 0).val = 3584 + (y 0).val; omega
  | ⟨1, _⟩ => show 0 + 1 * (y 1).val = (y 1).val; omega

theorem rd_square (a : Memref sig .tc .vmem S128x128 .bf16) (ha : a.IsWhole) (x : Vec Ideal S128x128 .bf16) (inb) :
    View.readAt (Elt Ideal) a.view (Rect.unit (s := S128x128) ![0, 0] (no_index S128x128.size) inb).toLoadRect (ha.unread x) = x := by
  rw [View.readAt_eq_ld, ha.read_unread, View.ld_unit_zero hz2]

/-! ## The block summary, step by step -/

/-- One row of every block: its offsets added, times its matrix of the first layer, added to what came before. -/
def step (acc : FVec Ideal S128x128 .f32) (a : Vec Ideal S128x128 .f32) (p : Vec Ideal S1x128 .f32) (w : Vec Ideal S1x128x128 .bf16) : FVec Ideal S128x128 .f32 :=
  addf acc (matmul dot_S128x128_S128x128_S128x128_1_0_0_1_n_n none
    (truncf .bf16 (addf (shapeCast S128x128 a shapeCasts_S128x128_S128x128 : FVec Ideal S128x128 .f32) (broadcastTo S128x128 p broadcasts_S1x128_S128x128)) bitsLt_bf16_f32)
    (shapeCast S128x128 w shapeCasts_S1x128x128_S128x128 : FVec Ideal S128x128 .bf16) (constant S128x128 .f32 0x00000000#32))

/-- The first `n` rows of every block through the first layer. -/
def chain (x : Vec Ideal S4096x128 .f32) (p : Vec Ideal S32x128 .f32) (w : Vec Ideal S32x128x128 .bf16) : ℕ → FVec Ideal S128x128 .f32
  | 0 => broadcast S128x128 (Scalar.ofBits .f32 0x00000000#32 : Ideal .f32)
  | n + 1 => step (chain x p w n) (rows x n) (offs p n) (mat w n)

/-- The gate of every element. -/
def gateV (v : FVec Ideal S128x128 .f32) : FVec Ideal S128x128 .bf16 :=
  truncf .bf16 (mulf (mulf (broadcast S128x128 (Scalar.ofBits .f32 0x3F000000#32 : Ideal .f32)) v)
    (addf (broadcast S128x128 (Scalar.ofBits .f32 0x3F800000#32 : Ideal .f32)) (tanh (mulf (broadcast S128x128 (Scalar.ofBits .f32 0x3F4C422A#32 : Ideal .f32))
      (addf v (mulf (mulf (mulf (broadcast S128x128 (Scalar.ofBits .f32 0x3D372713#32 : Ideal .f32)) v) v) v)))))) bitsLt_bf16_f32

theorem step_apply (acc : FVec Ideal S128x128 .f32) (a : Vec Ideal S128x128 .f32) (p : Vec Ideal S1x128 .f32) (w : Vec Ideal S1x128x128 .bf16) (n l : Fin 128) :
    step acc a p w (ix2 n l) = acc (ix2 n l) + ∑ k : Fin 128, (a (ix2 n k) + p (ix2 0 k)) * w (ix3 0 k l) := by
  pointwise [step]

theorem gateV_apply (v : FVec Ideal S128x128 .f32) (n l : Fin 128) : gateV v (ix2 n l) = gelu (v (ix2 n l)) := by
  unfold gelu
  pointwise [gateV]

theorem chain_apply (x : Vec Ideal S4096x128 .f32) (p : Vec Ideal S32x128 .f32) (w : Vec Ideal S32x128x128 .bf16) (n l : Fin 128) (t : ℕ) :
    chain x p w t (ix2 n l) = ∑ j ∈ Finset.range t, ∑ k : Fin 128, (rows x j (ix2 n k) + offs p j (ix2 0 k)) * mat w j (ix3 0 k l) := by
  induction t with
  | zero =>
    rw [Finset.range_zero, Finset.sum_empty]
    pointwise [chain]
  | succ t ih =>
    rw [Finset.sum_range_succ, ← ih]
    exact step_apply _ _ _ _ n l

/-! ## The stored values, element by element -/

theorem pay28_apply (v : FVec Ideal S128x128 .bf16) (u : Vec Ideal S128x128 .bf16) (g : Vec Ideal S1x128 .f32) (n d : Fin 128) :
    k0_pay28 v u g (ix4 0 0 n d) = rms (fun k => ∑ l : Fin 128, v (ix2 n l) * u (ix2 l k)) (fun k => g (ix2 0 k)) d := by
  unfold rms
  pointwise [k0_pay28]

theorem pay1_apply (g : Vec Ideal S1x128 .f32) (x : Vec Ideal S512x128 .f32) (r : Fin 512) (d : Fin 128) :
    k0_pay1 g (k0_pay61 x) (k0_pay62 x) (ix3 0 r d) = rms (fun k => x (ix2 r k)) (fun k => g (ix2 0 k)) d := by
  unfold rms
  pointwise [k0_pay1, k0_pay61, k0_pay62]

theorem pay3_apply (g : Vec Ideal S1x128 .f32) (x : Vec Ideal S128x128 .f32) (r : Fin 128) (d : Fin 128) :
    k0_pay3 g x (ix3 0 r d) = rms (fun k => x (ix2 r k)) (fun k => g (ix2 0 k)) d := by
  unfold rms
  pointwise [k0_pay3, k0_pay2]

/-- The second layer alone. -/
def second (v : FVec Ideal S128x128 .bf16) (u : Vec Ideal S128x128 .bf16) : FVec Ideal S1x1x128x128 .f32 :=
  shapeCast S1x1x128x128 (matmul dot_S128x128_S128x128_S128x128_1_0_0_1_n_n none v (shapeCast S128x128 u shapeCasts_S128x128_S128x128 : FVec Ideal S128x128 .bf16) (constant S128x128 .f32 0x00000000#32)) shapeCasts_S128x128_S1x1x128x128

theorem second_apply (v : FVec Ideal S128x128 .bf16) (u : Vec Ideal S128x128 .bf16) (n d : Fin 128) :
    second v u (ix4 0 0 n d) = ∑ l : Fin 128, v (ix2 n l) * u (ix2 l d) := by
  pointwise [second]

/-! ## The output blocks -/

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S3x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128x128 .bf16) (harg11 : arg11.IsWhole) (arg12 : Memref sig .tc .vmem S128x128 .bf16) (harg12 : arg12.IsWhole) (arg13 : Memref sig .tc .vmem S32x128x128 .bf16) (harg13 : arg13.IsWhole) (arg14 : Memref sig .tc .vmem S128x128 .bf16) (harg14 : arg14.IsWhole) (arg15 : Memref sig .tc .vmem S1x1x128x128 .f32) (harg15 : arg15.IsWhole) (arg16 : Memref sig .tc .vmem S1x1x128x128 .f32) (harg16 : arg16.IsWhole) (arg17 : Memref sig .tc .vmem S1x1x4096x256 .bf16) (harg17 : arg17.IsWhole) (arg18 : Memref sig .tc .vmem S1x4096x128 .f32) (harg18 : arg18.IsWhole) (arg19 : Memref sig .tc .vmem S1x1x8x128x512 .bf16) (harg19 : arg19.IsWhole) (arg20 : Memref sig .tc .vmem S1x1x4608x128 .bf16) (harg20 : arg20.IsWhole) (arg21 : Memref sig .tc .vmem S1x512x128 .f32) (harg21 : arg21.IsWhole) (arg22 : Memref sig .tc .vmem S1x1x36x128x128 .bf16) (harg22 : arg22.IsWhole)
 (x0 x1 x2 x3 x4 x5 : Vec Ideal S4096x128 .f32) (x6 : Vec Ideal S3x128 .f32) (x7 x8 : Vec Ideal S32x128 .f32) (x9 : Vec Ideal S32x128x128 .bf16) (x10 : Vec Ideal S128x128 .bf16) (x11 : Vec Ideal S32x128x128 .bf16) (x12 : Vec Ideal S128x128 .bf16)

set_option maxHeartbeats 4000000 in
/-- The body leaves the summary keys in its first output block. -/
theorem out13 : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = k0_pay28 (gateV (chain x0 x7 x9 32)) x10 (gain x6 0) := by
  unfold out0_A_13
  rw [View.read_writes_eq_canon _ _ _ (fun y => cover0_A_13 (y := y) ..)]
  unfold kernelRun0_A
  dsimp only
  sl_unfold_words
  rw [View.canon_unit_zero hz4]
  simp only [rd_rows]
  simp only [rd_offs]
  simp only [rd_mat]
  rw [rd_square]
  refine congrArg₂ (fun z g => k0_pay28 z _ g) ?_ (rd_gain _ _ _ 0 _)
  rfl

set_option maxHeartbeats 4000000 in
/-- The body leaves the summary values in its second output block. -/
theorem out14 : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = second (gateV (chain x1 x8 x11 32)) x12 := by
  unfold out0_A_14
  rw [View.read_writes_eq_canon _ _ _ (fun y => cover0_A_14 (y := y) ..)]
  unfold kernelRun0_A
  dsimp only
  sl_unfold_words
  rw [View.canon_unit_zero hz4]
  simp only [rd_rows]
  simp only [rd_offs]
  simp only [rd_mat]
  rw [rd_square]
  rfl

set_option maxHeartbeats 4000000 in
/-- The body leaves the last window keys in its seventh output block. -/
theorem out19 : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 = k0_pay1 (gain x6 2) (k0_pay61 (tail512 x4)) (k0_pay62 (tail512 x4)) := by
  unfold out0_A_19
  rw [View.read_writes_eq_canon _ _ _ (fun y => cover0_A_19 (y := y) ..)]
  unfold kernelRun0_A
  dsimp only
  sl_unfold_words
  rw [View.canon_unit_zero hz3]
  rw [rd_tail]
  exact congrArg (fun g => k0_pay1 g _ _) (rd_gain _ _ _ 2 _)

/-- The normalised row `r` of the selected keys. -/
def keyRow (x2 : Vec Ideal S4096x128 .f32) (g : Vec Ideal S1x128 .f32) (y : S1x4096x128.Idx) : EReal :=
  rms (fun k => x2 (ix2 (y 1) k)) (fun k => g (ix2 0 k)) (y 2)

/-- One stored tile of the selected keys holds the normalised rows it covers. -/
theorem key_tile (x2 : Vec Ideal S4096x128 .f32) (v695 : Vec Ideal S1x128 .f32) (a : Memref sig .tc .vmem S4096x128 .f32) (ha : a.IsWhole) (o : ℕ) (inb inb')
    (y : S1x128x128.Idx) :
    k0_pay3 v695 (View.readAt (Elt Ideal) a.view (Rect.unit (s := S4096x128) ![o, 0] ![128, 128] inb).toLoadRect (ha.unread x2)) y
      = keyRow x2 v695 ((Rect.unit (s := S1x4096x128) ![0, o, 0] ![1, 128, 128] inb').emb y) := by
  obtain ⟨r, d, rfl⟩ : ∃ (r : Fin 128) (d : Fin 128), y = ix3 0 r d := ⟨y 1, y 2, by
    funext k
    match k with
    | ⟨0, _⟩ => exact Subsingleton.elim (α := Fin 1) _ _
    | ⟨1, _⟩ => rfl
    | ⟨2, _⟩ => rfl⟩
  refine (pay3_apply _ _ r d).trans ?_
  unfold keyRow
  rw [View.readAt_eq_ld, ha.read_unread, show ((Rect.unit (s := S1x4096x128) ![0, o, 0] ![1, 128, 128] inb').emb (ix3 0 r d) : S1x4096x128.Idx) 2 = d from
    Fin.ext (show 0 + 1 * d.val = d.val by omega)]
  refine congrArg (fun f => rms f _ d) (funext fun k => congrArg x2 (funext fun q => Fin.ext ?_))
  match q with
  | ⟨0, _⟩ => rfl
  | ⟨1, _⟩ => show 0 + 1 * k.val = k.val; omega

/-- The same of a piece known to be such a tile. -/
theorem key_piece (x2 : Vec Ideal S4096x128 .f32) (v695 : Vec Ideal S1x128 .f32) (a : Memref sig .tc .vmem S4096x128 .f32) (ha : a.IsWhole)
    (p : View.Piece (Elt Ideal) S1x4096x128 .f32) {o : ℕ} {inb} {inb'}
    (hp : p = ⟨Rect.unit (s := S1x4096x128) ![0, o, 0] ![1, 128, 128] inb', k0_pay3 v695 (View.readAt (Elt Ideal) a.view (Rect.unit (s := S4096x128) ![o, 0] ![128, 128] inb).toLoadRect (ha.unread x2))⟩) :
    ∀ y : p.1.shape.Idx, p.2 y = keyRow x2 v695 (p.1.emb y) := by
  subst hp
  exact fun y => key_tile x2 v695 a ha o inb inb' y

set_option maxHeartbeats 4000000 in
/-- One trip of the loop stores such a tile. -/
theorem trip_pieces (v695 v696 : Vec Ideal S1x128 .f32) (v701 : FVec Ideal S128x128 .bf16) (X5 : BufTy.Contents (Elt Ideal) arg6.view.ty) (X6 : BufTy.Contents (Elt Ideal) arg7.view.ty) (n : Fin k0_t1_loop.trips) :
    ∀ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v695 v696 v701 (harg4.unread x2) X5 X6 n).2.1, ∀ y : p.1.shape.Idx, p.2 y = keyRow x2 v695 (p.1.emb y) := by
  unfold tripL_k0_t1 trip_k0_t1
  dsimp only
  sl_unfold_words
  intro p hp
  simp only [List.mem_cons, List.not_mem_nil, or_false] at hp
  exact key_piece x2 v695 arg4 harg4 p hp

set_option maxHeartbeats 4000000 in
/-- So do all the trips together. -/
theorem pieces (v695 v696 : Vec Ideal S1x128 .f32) (v701 : FVec Ideal S128x128 .bf16) (X5 : BufTy.Contents (Elt Ideal) arg6.view.ty) (X6 : BufTy.Contents (Elt Ideal) arg7.view.ty) (n : ℕ) (hn : n ≤ k0_t1_loop.trips) :
    ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v695 v696 v701 (harg4.unread x2) X5 X6 n).2.1, ∀ y : p.1.shape.Idx, p.2 y = keyRow x2 v695 (p.1.emb y) := by
  induction n with
  | zero => intro p hp; exact absurd hp List.not_mem_nil
  | succ n ih =>
    rw [show n + 1 = (⟨n, hn⟩ : Fin k0_t1_loop.trips).val + 1 from rfl, pb_k0_t1_succ]
    intro p hp
    rcases List.mem_append.mp hp with hp | hp
    · exact trip_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 v695 v696 v701 X5 X6 ⟨n, hn⟩ p hp
    · exact ih (Nat.le_of_lt hn) p hp

set_option maxHeartbeats 4000000 in
/-- The body leaves the normalised selected keys in its fourth output block. -/
theorem out16 (y : S1x4096x128.Idx) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 y = keyRow x2 (gain x6 1) y := by
  unfold out0_A_16
  rw [View.read_writes_eq_canon _ _ _ (fun y => cover0_A_16 (y := y) ..)]
  refine (View.canon_apply_of_pieces (Val := Elt Ideal) (e := .f32) (keyRow x2 _) _ ?_ y (cover0_A_16 (y := y) ..)).trans
    (congrArg (fun g => keyRow x2 g y) (rd_gain arg8 harg8 x6 1 inb_S3x128_S1x128_1_0))
  unfold kernelRun0_A
  dsimp only
  sl_unfold_words
  exact pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 _ _ _ _ _ _ (Nat.le_refl _)

end Cert.Prep
-- ==== Proof.Prep.lean ====
/-
  The keys' and values' preparation of one odd layer's prompt: from the input projection, one batch and one head a grid
  point, the summary keys and values of 128 blocks of 32 rows, the normalised selected keys and the last 512 normalised
  window keys. Each of these four result arrays is, element by element, the reference's.
-/
module

public import proofs.«01_k».proof.Defs
public import proofs.«01_k».proof.Proof.PrepRef
public import proofs.«01_k».proof.Proof.PrepStep
public import proofs.«01_k».proof.Proof.Gen.Kernel7Ideal.Value
public import proofs.«01_k».proof.Proof.Gen.Reference7Ideal.Read
public import Idealize.ShloMosaic.Lib.Pointwise
public import Idealize.ShloMosaic.Lib.Claim
public import Idealize.ShloMosaic.Lib.Quiescent

@[expose] public section

set_option maxRecDepth 16384

noncomputable section

namespace Cert.Prep

open Cert.Kernel7Ideal Cert.Kernel7Ideal.Gen Idealize.ShloMosaic Idealize.ShloMosaic.TcCoe Idealize.SL.Sem
open Idealize.ShloMosaic.Pipeline (Dat)

/-! ## One block's summary, from what the point loads -/

/-- The first layer's sum over the 32 rows of block `n`. -/
theorem sum_chain (x : Vec Ideal S4096x128 .f32) (p : Vec Ideal S32x128 .f32) (w : Vec Ideal S32x128x128 .bf16) (n l : Fin 128) :
    chain x p w 32 (ix2 n l) = ∑ j : Fin 32, ∑ k : Fin 128, (x (ix2 (blockRow n j) k) + p (ix2 j k)) * w (ix3 j k l) := by
  rw [chain_apply, Finset.sum_range]
  refine Finset.sum_congr rfl fun j _ => Finset.sum_congr rfl fun k _ => ?_
  have e : (⟨(n.val * 32 + j.val) % 4096, Nat.mod_lt _ (by decide)⟩ : Fin 4096) = blockRow n j := by
    apply Fin.ext
    show (n.val * 32 + j.val) % 4096 = n.val * 32 + j.val
    omega
  have f : (⟨j.val % 32, Nat.mod_lt _ (by decide)⟩ : Fin 32) = j := Fin.ext (Nat.mod_eq_of_lt j.isLt)
  show (x (ix2 ⟨(n.val * 32 + j.val) % 4096, _⟩ k) + p (ix2 ⟨j.val % 32, _⟩ k)) * w (ix3 ⟨j.val % 32, _⟩ k l) = _
  rw [e, f]

/-- The two layers give the block summary of whatever rows, offsets and weights the blocks hold. -/
theorem summary_blocks (x : Vec Ideal S4096x128 .f32) (p : Vec Ideal S32x128 .f32) (w : Vec Ideal S32x128x128 .bf16) (u : Vec Ideal S128x128 .bf16)
    (n : Fin 128) (a : Fin 32 → Fin 128 → EReal) (W : Fin 32 → Fin 128 → Fin 128 → EReal) (U : Fin 128 → Fin 128 → EReal)
    (ha : ∀ j k, x (ix2 (blockRow n j) k) + p (ix2 j k) = a j k) (hW : ∀ j k l, w (ix3 j k l) = W j k l) (hU : ∀ l d, u (ix2 l d) = U l d) (d : Fin 128) :
    ∑ l : Fin 128, gateV (chain x p w 32) (ix2 n l) * u (ix2 l d) = summary a W U d := by
  unfold summary
  refine Finset.sum_congr rfl fun l _ => ?_
  rw [gateV_apply, sum_chain, hU]
  simp only [ha, hW]

variable (m : (ℓ : Loc nD τ sig) → Buf (Elt Ideal) ℓ)

/-! ## The arrays the region finds -/

/-- The eight arguments: the projection, the three gains, the keys' and the values' position offsets, and the two layers of
    the keys' and of the values' summary. -/
abbrev argP (c : Dev nD) : Vec Ideal S2x4096x5168 .f32 := m ((c : Thread nD τ).loc main_arg0)
abbrev argG (c : Dev nD) : Vec Ideal S3x128 .f32 := m ((c : Thread nD τ).loc main_arg1)
abbrev argPK (c : Dev nD) : Vec Ideal S32x128 .f32 := m ((c : Thread nD τ).loc main_arg2)
abbrev argPV (c : Dev nD) : Vec Ideal S32x128 .f32 := m ((c : Thread nD τ).loc main_arg3)
abbrev argK1 (c : Dev nD) : Vec Ideal S4096x128 .f32 := m ((c : Thread nD τ).loc main_arg4)
abbrev argK2 (c : Dev nD) : Vec Ideal S128x128 .f32 := m ((c : Thread nD τ).loc main_arg5)
abbrev argV1 (c : Dev nD) : Vec Ideal S4096x128 .f32 := m ((c : Thread nD τ).loc main_arg6)
abbrev argV2 (c : Dev nD) : Vec Ideal S128x128 .f32 := m ((c : Thread nD τ).loc main_arg7)

/-- The projection as the region finds it: its first 5120 columns, the two batches laid one after the other. -/
theorem V_p (c : Dev nD) : (V m c main_v1 : Vec Ideal S8192x5120 .f32)
    = extractStridedSlice S8192x5120 ![0, 0] (shapeCast S8192x5168 (argP m c) shapeCasts_S2x4096x5168_S8192x5168) slices_S8192x5168_S8192x5120_0_0 := by
  show StableHlo.after hostOps0 _ (Proc.devRef .tc main_v1) = _
  after_results; rfl

/-- The four layers as the region finds them. -/
theorem V_k1 (c : Dev nD) : @Eq (FVec Ideal S32x128x128 .bf16) (V m c main_v3)
    (truncf .bf16 (shapeCast S32x128x128 (argK1 m c) shapeCasts_S4096x128_S32x128x128) bitsLt_bf16_f32) := by
  show StableHlo.after hostOps0 _ (Proc.devRef .tc main_v3) = _
  after_results; rfl
theorem V_k2 (c : Dev nD) : @Eq (FVec Ideal S128x128 .bf16) (V m c main_v4) (truncf .bf16 (argK2 m c) bitsLt_bf16_f32) := by
  show StableHlo.after hostOps0 _ (Proc.devRef .tc main_v4) = _
  after_results
theorem V_v1 (c : Dev nD) : @Eq (FVec Ideal S32x128x128 .bf16) (V m c main_v6)
    (truncf .bf16 (shapeCast S32x128x128 (argV1 m c) shapeCasts_S4096x128_S32x128x128) bitsLt_bf16_f32) := by
  show StableHlo.after hostOps0 _ (Proc.devRef .tc main_v6) = _
  after_results; rfl
theorem V_v2 (c : Dev nD) : @Eq (FVec Ideal S128x128 .bf16) (V m c main_v7) (truncf .bf16 (argV2 m c) bitsLt_bf16_f32) := by
  show StableHlo.after hostOps0 _ (Proc.devRef .tc main_v7) = _
  after_results

/-- Row `r` of the joined batches is row `r % 4096` of batch `r / 4096`. -/
theorem V_p_apply (c : Dev nD) (r : Fin 8192) (k : Fin 5120) : (V m c main_v1 : Vec Ideal S8192x5120 .f32) (ix2 r k)
    = argP m c (ix3 ⟨r.val / 4096, by omega⟩ ⟨r.val % 4096, by omega⟩ ⟨k.val, by omega⟩) := by
  rw [V_p]
  pointwise []

/-- A weight laid out by row of the block. -/
theorem layer_array (w : FVec Ideal S4096x128 .f32) (j : Fin 32) (k l : Fin 128) :
    (truncf .bf16 (shapeCast S32x128x128 w shapeCasts_S4096x128_S32x128x128) bitsLt_bf16_f32 : FVec Ideal S32x128x128 .bf16) (ix3 j k l) = layer w j k l := by
  unfold layer flat
  pointwise []

/-! ## The grid: 2 batches × 4 heads -/

/-- The batch and the head of point `t`. -/
def batch (t : Fin cfg0.N) : Fin 2 := ⟨t.val / 4, by have := t.isLt; have : cfg0.N = 8 := N_0; omega⟩
def head (t : Fin cfg0.N) : Fin 4 := ⟨t.val % 4, by omega⟩
/-- The array row of block row `r`, and the column of lane `d` of the kind whose first head is column block `q`. -/
def row (t : Fin cfg0.N) (r : Fin 4096) : Fin 8192 := ⟨t.val / 4 * 4096 + r.val, by have := t.isLt; have : cfg0.N = 8 := N_0; omega⟩
def col (q : ℕ) (hq : q ≤ 36) (t : Fin cfg0.N) (d : Fin 128) : Fin 5120 := ⟨(q + t.val % 4) * 128 + d.val, by omega⟩
/-- Lane `d` of point `t`'s head among the 512 lanes of four heads. -/
def lane (t : Fin cfg0.N) (d : Fin 128) : Fin 512 := ⟨t.val % 4 * 128 + d.val, by omega⟩

/-- The projection's first columns, at a point's row and head: one head's row of one kind. -/
theorem V_p_head (c : Dev nD) (t : Fin cfg0.N) (q at0 : ℕ) (hq : q ≤ 36) (ha : at0 ≤ 4608) (e : q * 128 = at0) (r : Fin 4096) (d : Fin 128) :
    (V m c main_v1 : Vec Ideal S8192x5120 .f32) (ix2 (row t r) (col q hq t d)) = headRow (argP m c) (batch t) at0 ha (head t) r d := by
  have hN : cfg0.N = 8 := N_0
  have ht := t.isLt
  refine (V_p_apply m c (row t r) (col q hq t d)).trans ?_
  unfold headRow
  congr 1
  funext a
  apply Fin.ext
  match a with
  | ⟨0, _⟩ => show (t.val / 4 * 4096 + r.val) / 4096 = t.val / 4; omega
  | ⟨1, _⟩ => show (t.val / 4 * 4096 + r.val) % 4096 = r.val; omega
  | ⟨2, _⟩ => show (q + t.val % 4) * 128 + d.val = at0 + (t.val % 4 * 128 + d.val); omega

/-- Which block each array is read or written by at each point. -/
theorem index0 : ∀ t : Fin cfg0.N, win0_0.index t 0 = t.val / 4 ∧ win0_0.index t 1 = 16 + t.val % 4 :=
  (by decide +kernel : ∀ t : Fin grid0.N, win0_0.index t 0 = t.val / 4 ∧ win0_0.index t 1 = 16 + t.val % 4)
theorem index1 : ∀ t : Fin cfg0.N, win0_1.index t 0 = t.val / 4 ∧ win0_1.index t 1 = 20 + t.val % 4 :=
  (by decide +kernel : ∀ t : Fin grid0.N, win0_1.index t 0 = t.val / 4 ∧ win0_1.index t 1 = 20 + t.val % 4)
theorem index2 : ∀ t : Fin cfg0.N, win0_2.index t 0 = t.val / 4 ∧ win0_2.index t 1 = 24 + t.val % 4 :=
  (by decide +kernel : ∀ t : Fin grid0.N, win0_2.index t 0 = t.val / 4 ∧ win0_2.index t 1 = 24 + t.val % 4)
theorem index4 : ∀ t : Fin cfg0.N, win0_4.index t 0 = t.val / 4 ∧ win0_4.index t 1 = 32 + t.val % 4 :=
  (by decide +kernel : ∀ t : Fin grid0.N, win0_4.index t 0 = t.val / 4 ∧ win0_4.index t 1 = 32 + t.val % 4)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)
theorem index12 : ∀ t : Fin cfg0.N, win0_12.index t 0 = 0 ∧ win0_12.index t 1 = 0 :=
  (by decide +kernel : ∀ t : Fin grid0.N, win0_12.index t 0 = 0 ∧ win0_12.index t 1 = 0)
theorem index13 : ∀ t : Fin cfg0.N, win0_13.index t 0 = t.val / 4 ∧ win0_13.index t 1 = t.val % 4 ∧ win0_13.index t 2 = 0 ∧ win0_13.index t 3 = 0 :=
  (by decide +kernel : ∀ t : Fin grid0.N, win0_13.index t 0 = t.val / 4 ∧ win0_13.index t 1 = t.val % 4 ∧ win0_13.index t 2 = 0 ∧ win0_13.index t 3 = 0)
theorem index14 : ∀ t : Fin cfg0.N, win0_14.index t 0 = t.val / 4 ∧ win0_14.index t 1 = t.val % 4 ∧ win0_14.index t 2 = 0 ∧ win0_14.index t 3 = 0 :=
  (by decide +kernel : ∀ t : Fin grid0.N, win0_14.index t 0 = t.val / 4 ∧ win0_14.index t 1 = t.val % 4 ∧ win0_14.index t 2 = 0 ∧ win0_14.index t 3 = 0)
theorem index16 : ∀ t : Fin cfg0.N, win0_16.index t 0 = t.val / 4 ∧ win0_16.index t 1 = 0 ∧ win0_16.index t 2 = t.val % 4 :=
  (by decide +kernel : ∀ t : Fin grid0.N, win0_16.index t 0 = t.val / 4 ∧ win0_16.index t 1 = 0 ∧ win0_16.index t 2 = t.val % 4)
theorem index19 : ∀ t : Fin cfg0.N, win0_19.index t 0 = t.val / 4 ∧ win0_19.index t 1 = 0 ∧ win0_19.index t 2 = t.val % 4 :=
  (by decide +kernel : ∀ t : Fin grid0.N, win0_19.index t 0 = t.val / 4 ∧ win0_19.index t 1 = 0 ∧ win0_19.index t 2 = t.val % 4)

/-- The summary keys' rows at point `t`. -/
theorem iblk0 (c : Dev nD) (t : Fin cfg0.N) (r : Fin 4096) (d : Fin 128) :
    (iblk m c 0 t : Vec Ideal S4096x128 .f32) (ix2 r d) = headRow (argP m c) (batch t) 2048 (by decide) (head t) r d := by
  refine Eq.trans ?_ (V_p_head m c t 16 2048 (by decide) (by decide) rfl r d)
  unfold iblk
  rw [View.read_apply]
  show V m c main_v1 _ = _
  congr 1
  funext a
  apply Fin.ext
  match a with
  | ⟨0, _⟩ => show win0_0.index t 0 * 4096 + 1 * r.val = t.val / 4 * 4096 + r.val; rw [(index0 t).1]; omega
  | ⟨1, _⟩ => show win0_0.index t 1 * 128 + 1 * d.val = (16 + t.val % 4) * 128 + d.val; rw [(index0 t).2]; omega

/-- The summary values' rows at point `t`. -/
theorem iblk1 (c : Dev nD) (t : Fin cfg0.N) (r : Fin 4096) (d : Fin 128) :
    (iblk m c 1 t : Vec Ideal S4096x128 .f32) (ix2 r d) = headRow (argP m c) (batch t) 2560 (by decide) (head t) r d := by
  refine Eq.trans ?_ (V_p_head m c t 20 2560 (by decide) (by decide) rfl r d)
  unfold iblk
  rw [View.read_apply]
  show V m c main_v1 _ = _
  congr 1
  funext a
  apply Fin.ext
  match a with
  | ⟨0, _⟩ => show win0_1.index t 0 * 4096 + 1 * r.val = t.val / 4 * 4096 + r.val; rw [(index1 t).1]; omega
  | ⟨1, _⟩ => show win0_1.index t 1 * 128 + 1 * d.val = (20 + t.val % 4) * 128 + d.val; rw [(index1 t).2]; omega

/-- The selected keys' rows at point `t`. -/
theorem iblk2 (c : Dev nD) (t : Fin cfg0.N) (r : Fin 4096) (d : Fin 128) :
    (iblk m c 2 t : Vec Ideal S4096x128 .f32) (ix2 r d) = headRow (argP m c) (batch t) 3072 (by decide) (head t) r d := by
  refine Eq.trans ?_ (V_p_head m c t 24 3072 (by decide) (by decide) rfl r d)
  unfold iblk
  rw [View.read_apply]
  show V m c main_v1 _ = _
  congr 1
  funext a
  apply Fin.ext
  match a with
  | ⟨0, _⟩ => show win0_2.index t 0 * 4096 + 1 * r.val = t.val / 4 * 4096 + r.val; rw [(index2 t).1]; omega
  | ⟨1, _⟩ => show win0_2.index t 1 * 128 + 1 * d.val = (24 + t.val % 4) * 128 + d.val; rw [(index2 t).2]; omega

/-- The window keys' rows at point `t`. -/
theorem iblk4 (c : Dev nD) (t : Fin cfg0.N) (r : Fin 4096) (d : Fin 128) :
    (iblk m c 4 t : Vec Ideal S4096x128 .f32) (ix2 r d) = headRow (argP m c) (batch t) 4096 (by decide) (head t) r d := by
  refine Eq.trans ?_ (V_p_head m c t 32 4096 (by decide) (by decide) rfl r d)
  unfold iblk
  rw [View.read_apply]
  show V m c main_v1 _ = _
  congr 1
  funext a
  apply Fin.ext
  match a with
  | ⟨0, _⟩ => show win0_4.index t 0 * 4096 + 1 * r.val = t.val / 4 * 4096 + r.val; rw [(index4 t).1]; omega
  | ⟨1, _⟩ => show win0_4.index t 1 * 128 + 1 * d.val = (32 + t.val % 4) * 128 + d.val; rw [(index4 t).2]; omega

/-- The gains: all three, at every point. -/
theorem iblk6 (c : Dev nD) (t : Fin cfg0.N) (q : Fin 3) (k : Fin 128) :
    (iblk m c 6 t : Vec Ideal S3x128 .f32) (ix2 q k) = argG m c (ix2 q k) := by
  unfold iblk
  rw [View.read_apply]
  show V m c main_arg1 _ = _
  rw [V_main_arg1 m c]
  show m ((c : Thread nD τ).loc main_arg1) _ = m ((c : Thread nD τ).loc main_arg1) _
  congr 1
  funext a
  apply Fin.ext
  match a with
  | ⟨0, _⟩ => show win0_6.index t 0 * 3 + 1 * q.val = q.val; rw [(index6 t).1]; omega
  | ⟨1, _⟩ => show win0_6.index t 1 * 128 + 1 * k.val = k.val; rw [(index6 t).2]; omega

/-- The keys' offsets: all of them, at every point. -/
theorem iblk7 (c : Dev nD) (t : Fin cfg0.N) (j : Fin 32) (k : Fin 128) :
    (iblk m c 7 t : Vec Ideal S32x128 .f32) (ix2 j k) = argPK m c (ix2 j k) := by
  unfold iblk
  rw [View.read_apply]
  show V m c main_arg2 _ = _
  rw [V_main_arg2 m c]
  show m ((c : Thread nD τ).loc main_arg2) _ = m ((c : Thread nD τ).loc main_arg2) _
  congr 1
  funext a
  apply Fin.ext
  match a with
  | ⟨0, _⟩ => show win0_7.index t 0 * 32 + 1 * j.val = j.val; rw [(index7 t).1]; omega
  | ⟨1, _⟩ => show win0_7.index t 1 * 128 + 1 * k.val = k.val; rw [(index7 t).2]; omega

/-- The values' offsets: all of them, at every point. -/
theorem iblk8 (c : Dev nD) (t : Fin cfg0.N) (j : Fin 32) (k : Fin 128) :
    (iblk m c 8 t : Vec Ideal S32x128 .f32) (ix2 j k) = argPV m c (ix2 j k) := by
  unfold iblk
  rw [View.read_apply]
  show V m c main_arg3 _ = _
  rw [V_main_arg3 m c]
  show m ((c : Thread nD τ).loc main_arg3) _ = m ((c : Thread nD τ).loc main_arg3) _
  congr 1
  funext a
  apply Fin.ext
  match a with
  | ⟨0, _⟩ => show win0_8.index t 0 * 32 + 1 * j.val = j.val; rw [(index8 t).1]; omega
  | ⟨1, _⟩ => show win0_8.index t 1 * 128 + 1 * k.val = k.val; rw [(index8 t).2]; omega

/-- The keys' first layer: all of it, at every point. -/
theorem iblk9 (c : Dev nD) (t : Fin cfg0.N) (j : Fin 32) (k : Fin 128) (l : Fin 128) :
    (iblk m c 9 t : Vec Ideal S32x128x128 .bf16) (ix3 j k l) = layer (argK1 m c) j k l := by
  refine Eq.trans ?_ ((congrFun (V_k1 m c) (ix3 j k l)).trans (layer_array (argK1 m c) j k l))
  unfold iblk
  rw [View.read_apply]
  show V m c main_v3 _ = _
  congr 1
  funext a
  apply Fin.ext
  match a with
  | ⟨0, _⟩ => show win0_9.index t 0 * 32 + 1 * j.val = j.val; rw [(index9 t).1]; omega
  | ⟨1, _⟩ => show win0_9.index t 1 * 128 + 1 * k.val = k.val; rw [(index9 t).2.1]; omega
  | ⟨2, _⟩ => show win0_9.index t 2 * 128 + 1 * l.val = l.val; rw [(index9 t).2.2]; omega

/-- The values' first layer: all of it, at every point. -/
theorem iblk11 (c : Dev nD) (t : Fin cfg0.N) (j : Fin 32) (k : Fin 128) (l : Fin 128) :
    (iblk m c 11 t : Vec Ideal S32x128x128 .bf16) (ix3 j k l) = layer (argV1 m c) j k l := by
  refine Eq.trans ?_ ((congrFun (V_v1 m c) (ix3 j k l)).trans (layer_array (argV1 m c) j k l))
  unfold iblk
  rw [View.read_apply]
  show V m c main_v6 _ = _
  congr 1
  funext a
  apply Fin.ext
  match a with
  | ⟨0, _⟩ => show win0_11.index t 0 * 32 + 1 * j.val = j.val; rw [(index11 t).1]; omega
  | ⟨1, _⟩ => show win0_11.index t 1 * 128 + 1 * k.val = k.val; rw [(index11 t).2.1]; omega
  | ⟨2, _⟩ => show win0_11.index t 2 * 128 + 1 * l.val = l.val; rw [(index11 t).2.2]; omega

/-- The keys' second layer: all of it, at every point. -/
theorem iblk10 (c : Dev nD) (t : Fin cfg0.N) (l : Fin 128) (d : Fin 128) :
    (iblk m c 10 t : Vec Ideal S128x128 .bf16) (ix2 l d) = argK2 m c (ix2 l d) := by
  refine Eq.trans ?_ ((congrFun (V_k2 m c) (ix2 l d)))
  unfold iblk
  rw [View.read_apply]
  show V m c main_v4 _ = _
  congr 1
  funext a
  apply Fin.ext
  match a with
  | ⟨0, _⟩ => show win0_10.index t 0 * 128 + 1 * l.val = l.val; rw [(index10 t).1]; omega
  | ⟨1, _⟩ => show win0_10.index t 1 * 128 + 1 * d.val = d.val; rw [(index10 t).2]; omega

/-- The values' second layer: all of it, at every point. -/
theorem iblk12 (c : Dev nD) (t : Fin cfg0.N) (l : Fin 128) (d : Fin 128) :
    (iblk m c 12 t : Vec Ideal S128x128 .bf16) (ix2 l d) = argV2 m c (ix2 l d) := by
  refine Eq.trans ?_ ((congrFun (V_v2 m c) (ix2 l d)))
  unfold iblk
  rw [View.read_apply]
  show V m c main_v7 _ = _
  congr 1
  funext a
  apply Fin.ext
  match a with
  | ⟨0, _⟩ => show win0_12.index t 0 * 128 + 1 * l.val = l.val; rw [(index12 t).1]; omega
  | ⟨1, _⟩ => show win0_12.index t 1 * 128 + 1 * d.val = d.val; rw [(index12 t).2]; omega

/-! ## The four result arrays -/

/-- The results both programs leave: the reference's values of the arguments. -/
abbrev GK (c : Dev nD) : Vec Ideal S2x4x128x128 .f32 := Cert.Reference7Ideal.Read.val_main_v102 (F := Ideal) (argP m c) (argG m c) (argPK m c) (argK1 m c) (argK2 m c)
abbrev GV (c : Dev nD) : Vec Ideal S2x4x128x128 .f32 := Cert.Reference7Ideal.Read.val_main_v103 (F := Ideal) (argP m c) (argPV m c) (argV1 m c) (argV2 m c)
abbrev GS (c : Dev nD) : Vec Ideal S2x4096x512 .f32 := Cert.Reference7Ideal.Read.val_main_v104 (F := Ideal) (argP m c) (argG m c)
abbrev GW (c : Dev nD) : Vec Ideal S2x512x512 .f32 := Cert.Reference7Ideal.Read.val_main_v105 (F := Ideal) (argP m c) (argG m c)

/-- A head's lane among four heads' lanes: the head, and the lane in it. -/
theorem lane_div (t : Fin cfg0.N) (d : Fin 128) : (⟨(lane t d).val / 128, by omega⟩ : Fin 4) = head t := by
  apply Fin.ext
  show (t.val % 4 * 128 + d.val) / 128 = t.val % 4
  omega
theorem lane_mod (t : Fin cfg0.N) (d : Fin 128) : (⟨(lane t d).val % 128, by omega⟩ : Fin 128) = d := by
  apply Fin.ext
  show (t.val % 4 * 128 + d.val) % 128 = d.val
  omega

/-- An index of a block, by the coordinates that are not alone on their axis. -/
theorem one4 (y : S1x1x128x128.Idx) : ∃ (n d : Fin 128), y = ix4 0 0 n d :=
  ⟨y 2, y 3, (eq_ix4 y).trans (congrArg₂ (fun (p q : Fin 1) => (ix4 p q (y 2) (y 3) : S1x1x128x128.Idx)) (Subsingleton.elim _ _) (Subsingleton.elim _ _))⟩
theorem one3_4096 (y : S1x4096x128.Idx) : ∃ (r : Fin 4096) (d : Fin 128), y = ix3 0 r d :=
  ⟨y 1, y 2, (eq_ix3 y).trans (congrArg (fun (p : Fin 1) => (ix3 p (y 1) (y 2) : S1x4096x128.Idx)) (Subsingleton.elim _ _))⟩
theorem one3_512 (y : S1x512x128.Idx) : ∃ (r : Fin 512) (d : Fin 128), y = ix3 0 r d :=
  ⟨y 1, y 2, (eq_ix3 y).trans (congrArg (fun (p : Fin 1) => (ix3 p (y 1) (y 2) : S1x512x128.Idx)) (Subsingleton.elim _ _))⟩

set_option maxHeartbeats 1000000 in
/-- What point `t` writes back of the summary keys is its block of the reference's value. -/
theorem flushed13_eq (c : Dev nD) (t : Fin cfg0.N) : (dats m 0 c).flushed 13 t = ((cfg0.win 13).blk t).view.read (Elt Ideal) (GK m c) := by
  rw [Value.flushed13_A, out13]
  funext y
  obtain ⟨n, d, rfl⟩ : ∃ (n d : Fin 128), y = (ix4 0 0 n d : S1x1x128x128.Idx) := one4 y
  have e : ((cfg0.win 13).blk t).view.emb (ix4 0 0 n d : S1x1x128x128.Idx) = (ix4 (batch t) (head t) n d : S2x4x128x128.Idx) := by
    funext a
    apply Fin.ext
    match a with
    | ⟨0, _⟩ => show win0_13.index t 0 * 1 + 1 * 0 = t.val / 4; rw [(index13 t).1]; omega
    | ⟨1, _⟩ => show win0_13.index t 1 * 1 + 1 * 0 = t.val % 4; rw [(index13 t).2.1]; omega
    | ⟨2, _⟩ => show win0_13.index t 2 * 128 + 1 * n.val = n.val; rw [(index13 t).2.2.1]; omega
    | ⟨3, _⟩ => show win0_13.index t 3 * 128 + 1 * d.val = d.val; rw [(index13 t).2.2.2]; omega
  rw [View.read_apply, e]
  rw [show GK m c (ix4 (batch t) (head t) n d) = _ from Cert.Prep.ref_kcmp (argP m c) (argG m c) (argPK m c) (argK1 m c) (argK2 m c) (batch t) (head t) n d]
  refine (pay28_apply _ _ _ n d).trans ?_
  refine congrArg₂ (fun f g => rms f g d) (funext fun k => ?_) (funext fun k => iblk6 m c t 0 k)
  refine summary_blocks (iblk m c 0 t) (iblk m c 7 t) (iblk m c 9 t) (iblk m c 10 t) n (shifted (argP m c) (argPK m c) (batch t) 2048 (by decide) (head t) n)
    (layer (argK1 m c)) (fun l d => argK2 m c (ix2 l d)) (fun j k => ?_) (fun j k l => iblk9 m c t j k l) (fun l d => iblk10 m c t l d) k
  unfold shifted
  rw [iblk0 m c t (blockRow n j) k, iblk7 m c t j k]

set_option maxHeartbeats 1000000 in
/-- What point `t` writes back of the summary values is its block of the reference's value. -/
theorem flushed14_eq (c : Dev nD) (t : Fin cfg0.N) : (dats m 0 c).flushed 14 t = ((cfg0.win 14).blk t).view.read (Elt Ideal) (GV m c) := by
  rw [Value.flushed14_A, out14]
  funext y
  obtain ⟨n, d, rfl⟩ : ∃ (n d : Fin 128), y = (ix4 0 0 n d : S1x1x128x128.Idx) := one4 y
  have e : ((cfg0.win 14).blk t).view.emb (ix4 0 0 n d : S1x1x128x128.Idx) = (ix4 (batch t) (head t) n d : S2x4x128x128.Idx) := by
    funext a
    apply Fin.ext
    match a with
    | ⟨0, _⟩ => show win0_14.index t 0 * 1 + 1 * 0 = t.val / 4; rw [(index14 t).1]; omega
    | ⟨1, _⟩ => show win0_14.index t 1 * 1 + 1 * 0 = t.val % 4; rw [(index14 t).2.1]; omega
    | ⟨2, _⟩ => show win0_14.index t 2 * 128 + 1 * n.val = n.val; rw [(index14 t).2.2.1]; omega
    | ⟨3, _⟩ => show win0_14.index t 3 * 128 + 1 * d.val = d.val; rw [(index14 t).2.2.2]; omega
  rw [View.read_apply, e]
  rw [show GV m c (ix4 (batch t) (head t) n d) = _ from Cert.Prep.ref_vcmp (argP m c) (argPV m c) (argV1 m c) (argV2 m c) (batch t) (head t) n d]
  refine (second_apply _ _ n d).trans ?_
  refine summary_blocks (iblk m c 1 t) (iblk m c 8 t) (iblk m c 11 t) (iblk m c 12 t) n (shifted (argP m c) (argPV m c) (batch t) 2560 (by decide) (head t) n)
    (layer (argV1 m c)) (fun l d => argV2 m c (ix2 l d)) (fun j k => ?_) (fun j k l => iblk11 m c t j k l) (fun l d => iblk12 m c t l d) d
  unfold shifted
  rw [iblk1 m c t (blockRow n j) k, iblk8 m c t j k]

set_option maxHeartbeats 1000000 in
/-- What point `t` writes back of the selected keys is its block of the reference's value. -/
theorem flushed16_eq (c : Dev nD) (t : Fin cfg0.N) : (dats m 0 c).flushed 16 t = ((cfg0.win 16).blk t).view.read (Elt Ideal) (GS m c) := by
  rw [Value.flushed16_A]
  funext y
  obtain ⟨r, d, rfl⟩ : ∃ (r : Fin 4096) (d : Fin 128), y = (ix3 0 r d : S1x4096x128.Idx) := one3_4096 y
  have e : ((cfg0.win 16).blk t).view.emb (ix3 0 r d : S1x4096x128.Idx) = (ix3 (batch t) r (lane t d) : S2x4096x512.Idx) := by
    funext a
    apply Fin.ext
    match a with
    | ⟨0, _⟩ => show win0_16.index t 0 * 1 + 1 * 0 = t.val / 4; rw [(index16 t).1]; omega
    | ⟨1, _⟩ => show win0_16.index t 1 * 4096 + 1 * r.val = r.val; rw [(index16 t).2.1]; omega
    | ⟨2, _⟩ => show win0_16.index t 2 * 128 + 1 * d.val = t.val % 4 * 128 + d.val; rw [(index16 t).2.2]; omega
  rw [View.read_apply]
  show out0_A_16 (F := Ideal) _ _ _ _ _ _ _ _ _ _ _ _ _ _ _ _ _ _ _ _ _ _ _ _ _ _ _ _ _ _ _ _ _ _ _ _ _ _ _ _ _ _ _ _ _ _ _ _ _ _ _ _ _ _ _ _ _ (ix3 0 r d) = GS m c _
  rw [out16, e, show GS m c (ix3 (batch t) r (lane t d)) = _ from Cert.Prep.ref_ksf (argP m c) (argG m c) (batch t) r (lane t d), lane_div, lane_mod]
  show rms (fun k => _) (fun k => _) d = _
  exact congrArg₂ (fun f g => rms f g d) (funext fun k => iblk2 m c t r k) (funext fun k => iblk6 m c t 1 k)

set_option maxHeartbeats 1000000 in
/-- What point `t` writes back of the window keys is its block of the reference's value. -/
theorem flushed19_eq (c : Dev nD) (t : Fin cfg0.N) : (dats m 0 c).flushed 19 t = ((cfg0.win 19).blk t).view.read (Elt Ideal) (GW m c) := by
  rw [Value.flushed19_A]
  funext y
  obtain ⟨r, d, rfl⟩ : ∃ (r : Fin 512) (d : Fin 128), y = (ix3 0 r d : S1x512x128.Idx) := one3_512 y
  have e : ((cfg0.win 19).blk t).view.emb (ix3 0 r d : S1x512x128.Idx) = (ix3 (batch t) r (lane t d) : S2x512x512.Idx) := by
    funext a
    apply Fin.ext
    match a with
    | ⟨0, _⟩ => show win0_19.index t 0 * 1 + 1 * 0 = t.val / 4; rw [(index19 t).1]; omega
    | ⟨1, _⟩ => show win0_19.index t 1 * 512 + 1 * r.val = r.val; rw [(index19 t).2.1]; omega
    | ⟨2, _⟩ => show win0_19.index t 2 * 128 + 1 * d.val = t.val % 4 * 128 + d.val; rw [(index19 t).2.2]; omega
  rw [View.read_apply]
  show out0_A_19 (F := Ideal) _ _ _ _ _ _ _ _ _ _ _ _ _ _ _ _ _ _ _ _ _ _ _ _ _ _ _ _ _ _ _ _ _ _ _ _ _ _ _ _ _ _ _ _ _ _ _ _ _ _ _ _ _ _ _ _ _ (ix3 0 r d) = GW m c _
  rw [out19, e, show GW m c (ix3 (batch t) r (lane t d)) = _ from Cert.Prep.ref_kwf (argP m c) (argG m c) (batch t) r (lane t d), lane_div, lane_mod]
  refine (pay1_apply _ _ r d).trans ?_
  exact congrArg₂ (fun f g => rms f g d) (funext fun k => iblk4 m c t ⟨3584 + r.val, by omega⟩ k) (funext fun k => iblk6 m c t 2 k)

/-- Every element of this result array is in some point's block. -/
theorem cover13 (i : S2x4x128x128.Idx) : ∃ t : Fin cfg0.N, (cfg0.win 13).flush t = true ∧ i ∈ ((cfg0.win 13).blk t).view.set := by
  have h0 : (i 0).val < 2 := (i 0).isLt
  have h1 : (i 1).val < 4 := (i 1).isLt
  have hN : cfg0.N = 8 := N_0
  obtain ⟨t, ht⟩ : ∃ t : Fin cfg0.N, t.val = 4 * (i 0).val + (i 1).val := ⟨⟨4 * (i 0).val + (i 1).val, by omega⟩, rfl⟩
  refine ⟨t, flush0_13 t, ?_⟩
  have e : @Eq S2x4x128x128.Idx (((cfg0.win 13).blk t).view.emb (ix4 0 0 (i 2) (i 3) : S1x1x128x128.Idx)) i := by
    funext a
    apply Fin.ext
    match a with
    | ⟨0, _⟩ => show win0_13.index t 0 * 1 + 1 * 0 = (i 0).val; rw [(index13 t).1]; omega
    | ⟨1, _⟩ => show win0_13.index t 1 * 1 + 1 * 0 = (i 1).val; rw [(index13 t).2.1]; omega
    | ⟨2, _⟩ => show win0_13.index t 2 * 128 + 1 * (i 2).val = (i 2).val; rw [(index13 t).2.2.1]; omega
    | ⟨3, _⟩ => show win0_13.index t 3 * 128 + 1 * (i 3).val = (i 3).val; rw [(index13 t).2.2.2]; omega
  rw [← e]
  exact View.emb_mem_set _ _

/-- Every element of this result array is in some point's block. -/
theorem cover14 (i : S2x4x128x128.Idx) : ∃ t : Fin cfg0.N, (cfg0.win 14).flush t = true ∧ i ∈ ((cfg0.win 14).blk t).view.set := by
  have h0 : (i 0).val < 2 := (i 0).isLt
  have h1 : (i 1).val < 4 := (i 1).isLt
  have hN : cfg0.N = 8 := N_0
  obtain ⟨t, ht⟩ : ∃ t : Fin cfg0.N, t.val = 4 * (i 0).val + (i 1).val := ⟨⟨4 * (i 0).val + (i 1).val, by omega⟩, rfl⟩
  refine ⟨t, flush0_14 t, ?_⟩
  have e : @Eq S2x4x128x128.Idx (((cfg0.win 14).blk t).view.emb (ix4 0 0 (i 2) (i 3) : S1x1x128x128.Idx)) i := by
    funext a
    apply Fin.ext
    match a with
    | ⟨0, _⟩ => show win0_14.index t 0 * 1 + 1 * 0 = (i 0).val; rw [(index14 t).1]; omega
    | ⟨1, _⟩ => show win0_14.index t 1 * 1 + 1 * 0 = (i 1).val; rw [(index14 t).2.1]; omega
    | ⟨2, _⟩ => show win0_14.index t 2 * 128 + 1 * (i 2).val = (i 2).val; rw [(index14 t).2.2.1]; omega
    | ⟨3, _⟩ => show win0_14.index t 3 * 128 + 1 * (i 3).val = (i 3).val; rw [(index14 t).2.2.2]; omega
  rw [← e]
  exact View.emb_mem_set _ _

/-- Every element of this result array is in some point's block. -/
theorem cover16 (i : S2x4096x512.Idx) : ∃ t : Fin cfg0.N, (cfg0.win 16).flush t = true ∧ i ∈ ((cfg0.win 16).blk t).view.set := by
  have h0 : (i 0).val < 2 := (i 0).isLt
  have h2 : (i 2).val < 512 := (i 2).isLt
  have hN : cfg0.N = 8 := N_0
  obtain ⟨t, ht⟩ : ∃ t : Fin cfg0.N, t.val = 4 * (i 0).val + (i 2).val / 128 := ⟨⟨4 * (i 0).val + (i 2).val / 128, by omega⟩, rfl⟩
  refine ⟨t, flush0_16 t, ?_⟩
  have e : @Eq S2x4096x512.Idx (((cfg0.win 16).blk t).view.emb (ix3 0 (i 1) (⟨(i 2).val % 128, by omega⟩ : Fin 128) : S1x4096x128.Idx)) i := by
    funext a
    apply Fin.ext
    match a with
    | ⟨0, _⟩ => show win0_16.index t 0 * 1 + 1 * 0 = (i 0).val; rw [(index16 t).1]; omega
    | ⟨1, _⟩ => show win0_16.index t 1 * 4096 + 1 * (i 1).val = (i 1).val; rw [(index16 t).2.1]; omega
    | ⟨2, _⟩ => show win0_16.index t 2 * 128 + 1 * ((i 2).val % 128) = (i 2).val; rw [(index16 t).2.2]; omega
  rw [← e]
  exact View.emb_mem_set _ _

/-- Every element of this result array is in some point's block. -/
theorem cover19 (i : S2x512x512.Idx) : ∃ t : Fin cfg0.N, (cfg0.win 19).flush t = true ∧ i ∈ ((cfg0.win 19).blk t).view.set := by
  have h0 : (i 0).val < 2 := (i 0).isLt
  have h2 : (i 2).val < 512 := (i 2).isLt
  have hN : cfg0.N = 8 := N_0
  obtain ⟨t, ht⟩ : ∃ t : Fin cfg0.N, t.val = 4 * (i 0).val + (i 2).val / 128 := ⟨⟨4 * (i 0).val + (i 2).val / 128, by omega⟩, rfl⟩
  refine ⟨t, flush0_19 t, ?_⟩
  have e : @Eq S2x512x512.Idx (((cfg0.win 19).blk t).view.emb (ix3 0 (i 1) (⟨(i 2).val % 128, by omega⟩ : Fin 128) : S1x512x128.Idx)) i := by
    funext a
    apply Fin.ext
    match a with
    | ⟨0, _⟩ => show win0_19.index t 0 * 1 + 1 * 0 = (i 0).val; rw [(index19 t).1]; omega
    | ⟨1, _⟩ => show win0_19.index t 1 * 512 + 1 * (i 1).val = (i 1).val; rw [(index19 t).2.1]; omega
    | ⟨2, _⟩ => show win0_19.index t 2 * 128 + 1 * ((i 2).val % 128) = (i 2).val; rw [(index19 t).2.2]; omega
  rw [← e]
  exact View.emb_mem_set _ _

/-- So each result array ends holding the reference's value. -/
theorem final13 (c : Dev nD) : (dats m 0 c).arrAt 13 cfg0.N = GK m c :=
  (dats m 0 c).arrAt_eq_of_cover 13 (GK m c) (fun t _ => flushed13_eq m c t) cover13
theorem final14 (c : Dev nD) : (dats m 0 c).arrAt 14 cfg0.N = GV m c :=
  (dats m 0 c).arrAt_eq_of_cover 14 (GV m c) (fun t _ => flushed14_eq m c t) cover14
theorem final16 (c : Dev nD) : (dats m 0 c).arrAt 16 cfg0.N = GS m c :=
  (dats m 0 c).arrAt_eq_of_cover 16 (GS m c) (fun t _ => flushed16_eq m c t) cover16
theorem final19 (c : Dev nD) : (dats m 0 c).arrAt 19 cfg0.N = GW m c :=
  (dats m 0 c).arrAt_eq_of_cover 19 (GW m c) (fun t _ => flushed19_eq m c t) cover19

/-- The reference runs, keeps its arguments and leaves every semaphore at zero. -/
theorem frame_ref : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run m ρ)

/-- The kernel and the reference leave the same four results on the same arguments. -/
theorem algebraic : Cert.algebraic_Kernel7Ideal_Reference7Ideal := fun m g m' g' _ hag =>
  ⟨fun c => GK m c, fun c => GV m c, fun c => GS m c, fun c => GW m c,
    (θ_run defs _ _).mono (fun r h c => ⟨(h c).1.trans (final13 m c), (h c).2.1.trans (final14 m c), (h c).2.2.2.1.trans (final16 m c),
      (h c).2.2.2.2.2.2.1.trans (final19 m c), (h c).2.2.2.2.2.2.2.2⟩) (Value.run_blocks m g),
    (θ_run Cert.Reference7Ideal.defs _ _).mono (fun r h c => ⟨(h c).1.trans ((Cert.Reference7Ideal.Read.val_main_v102_eq m' c).trans (by
        rw [(hag c).1, (hag c).2.1, (hag c).2.2.1, (hag c).2.2.2.2.1, (hag c).2.2.2.2.2.1])),
      (h c).2.1.trans ((Cert.Reference7Ideal.Read.val_main_v103_eq m' c).trans (by
        rw [(hag c).1, (hag c).2.2.2.1, (hag c).2.2.2.2.2.2.1, (hag c).2.2.2.2.2.2.2])),
      (h c).2.2.1.trans ((Cert.Reference7Ideal.Read.val_main_v104_eq _ _).trans (by
        rw [(hag c).1, (hag c).2.1])),
      (h c).2.2.2.1.trans ((Cert.Reference7Ideal.Read.val_main_v105_eq _ _).trans (by
        rw [(hag c).1, (hag c).2.1])), (h c).2.2.2.2⟩) (Cert.Reference7Ideal.Value.run m' g')⟩

end Cert.Prep
-- ==== Proof.lean ====
/-
  The claims about seven kernels of one decoder block, each against a reference of its own: the window attention of a
  decoding step, the feed-forward layer, the two projections of normalised rows, the two output projections, and the
  preparation of a prompt's keys and values. Each kernel runs and gives back its arguments as they were; each is the same
  program after its rewrites; and each leaves the reference's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_scores_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Window
public import proofs.«01_k».proof.Proof.Mlp
public import proofs.«01_k».proof.Proof.NormedEven
public import proofs.«01_k».proof.Proof.NormedOdd
public import proofs.«01_k».proof.Proof.ProjectTwo
public import proofs.«01_k».proof.Proof.Project
public import proofs.«01_k».proof.Proof.Prep
public import Idealize.ShloMosaic.Adequacy
public import Idealize.ShloMosaic.Init

@[expose] public section

noncomputable section

namespace Cert.Proof

open Idealize.ShloMosaic Idealize.SL.Sem Cert.Kernel

/-- All claims together: first every program's run, then kernel against rewritten kernel against reference. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Pre_scores_finite.Gen.facts,
    fun m ρ _ => Cert.Kernel.Gen.frame m ρ,
    fun m ρ _ => Cert.KernelIdeal.Gen.frame m ρ,
    fun m ρ _ => Cert.KernelIdeal.Gen.frame m ρ,
    Cert.Window.frame_ref,
    Cert.Window.frame_ref_pre,
    fun m ρ _ => Cert.Kernel2.Gen.frame m ρ,
    fun m ρ _ => Cert.Kernel2Ideal.Gen.frame m ρ,
    Cert.Mlp.frame_ref,
    fun m ρ _ => Cert.Kernel3.Gen.frame m ρ,
    fun m ρ _ => Cert.Kernel3Ideal.Gen.frame m ρ,
    Cert.NormedEven.frame_ref,
    fun m ρ _ => Cert.Kernel4.Gen.frame m ρ,
    fun m ρ _ => Cert.Kernel4Ideal.Gen.frame m ρ,
    Cert.NormedOdd.frame_ref,
    fun m ρ _ => Cert.Kernel5.Gen.frame m ρ,
    fun m ρ _ => Cert.Kernel5Ideal.Gen.frame m ρ,
    Cert.ProjectTwo.frame_ref,
    fun m ρ _ => Cert.Kernel6.Gen.frame m ρ,
    fun m ρ _ => Cert.Kernel6Ideal.Gen.frame m ρ,
    Cert.Project.frame_ref,
    fun m ρ _ => Cert.Kernel7.Gen.frame m ρ,
    fun m ρ _ => Cert.Kernel7Ideal.Gen.frame m ρ,
    Cert.Prep.frame_ref,
    trivial,
    Cert.Window.algebraic,
    trivial,
    Cert.Mlp.algebraic,
    trivial,
    Cert.NormedEven.algebraic,
    trivial,
    Cert.NormedOdd.algebraic,
    trivial,
    Cert.ProjectTwo.algebraic,
    trivial,
    Cert.Project.algebraic,
    trivial,
    Cert.Prep.algebraic⟩

end Cert.Proof

end
